-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S2048x1024 : Shape := ⟨2, ![2048, 1024]⟩
abbrev S8192x1024 : Shape := ⟨2, ![8192, 1024]⟩
abbrev S3x2048x1024 : Shape := ⟨3, ![3, 2048, 1024]⟩
abbrev S3x2 : Shape := ⟨2, ![3, 2]⟩
abbrev S_ : Shape := ⟨0, ![]⟩
abbrev S1x1 : Shape := ⟨2, ![1, 1]⟩
abbrev S1x1024x1024 : Shape := ⟨3, ![1, 1024, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 5
  | .vmem => 3
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S4x2048x1024, .f32⟩
  | .local _ .vmem, ⟨0, _⟩ => ⟨S3x2048x1024, .f32⟩
  | .local _ .vmem, ⟨1, _⟩ => ⟨S3x2048x1024, .f32⟩
  | .local _ .vmem, ⟨2, _⟩ => ⟨S2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_38 : BitVec 32) : Fin 2 → Nat :=
  let c3_i32_39 : BitVec 32 := 3#32
  let v60 : BitVec 32 := Scalar.remsi c0_i32_38 c3_i32_39
  let c0_i32_40 : BitVec 32 := 0#32
  ![v60.toNat, 0]
def k0_off2 (c0_i32_38 : BitVec 32) : Fin 3 → Nat :=
  let c3_i32_39 : BitVec 32 := 3#32
  let v60 : BitVec 32 := Scalar.remsi c0_i32_38 c3_i32_39
  let c0_i32_41 : BitVec 32 := 0#32
  let c0_i32_42 : BitVec 32 := 0#32
  ![v60.toNat, 0, 0]
def k0_off3 (c0_i32_38 : BitVec 32) : Fin 2 → Nat :=
  let c3_i32_39 : BitVec 32 := 3#32
  let v60 : BitVec 32 := Scalar.remsi c0_i32_38 c3_i32_39
  let c1_i32_45 : BitVec 32 := 1#32
  ![v60.toNat, 1]
def k0_off4 (c0_i32_38 : BitVec 32) : Fin 3 → Nat :=
  let c3_i32_39 : BitVec 32 := 3#32
  let v60 : BitVec 32 := Scalar.remsi c0_i32_38 c3_i32_39
  let c1024_i32_46 : BitVec 32 := 1024#32
  let c0_i32_47 : BitVec 32 := 0#32
  ![v60.toNat, 1024, 0]
def k0_cond2 (i : grid0.Coords) : BitVec 1 :=
  let arg0 : BitVec 32 := BitVec.ofNat 32 (i 0).val
  let c3_i32_1 : BitVec 32 := 3#32
  let v4 : BitVec 1 := Scalar.cmpi .sge arg0 c3_i32_1
  let v5 : BitVec 32 := Scalar.extui v4
  let c0_i32_2 : BitVec 32 := 0#32
  let v6 : BitVec 1 := Scalar.cmpi .ne v5 c0_i32_2
  v6

def k0_off5 (i : grid0.Coords) : Fin 2 → Nat :=
  let arg0 : BitVec 32 := BitVec.ofNat 32 (i 0).val
  let c3_i32 : BitVec 32 := 3#32
  let v3 : BitVec 32 := Scalar.remsi arg0 c3_i32
  let c0_i32_41 : BitVec 32 := 0#32
  ![v3.toNat, 0]
def k0_off6 (i : grid0.Coords) (c0_i32_40 : BitVec 32) : Fin 2 → Nat :=
  let arg0 : BitVec 32 := BitVec.ofNat 32 (i 0).val
  let c3_i32_38 : BitVec 32 := 3#32
  let v60 : BitVec 32 := Scalar.subi arg0 c3_i32_38
  let c2048_i32_39 : BitVec 32 := 2048#32
  let v61 : BitVec 32 := Scalar.muli v60 c2048_i32_39
  let v62 : BitVec 32 := Scalar.addi v61 c0_i32_40
  let c0_i32_42 : BitVec 32 := 0#32
  ![v62.toNat, 0]
def k0_off7 (i : grid0.Coords) : Fin 3 → Nat :=
  let arg0 : BitVec 32 := BitVec.ofNat 32 (i 0).val
  let c3_i32 : BitVec 32 := 3#32
  let v3 : BitVec 32 := Scalar.remsi arg0 c3_i32
  let c0_i32_43 : BitVec 32 := 0#32
  let c0_i32_44 : BitVec 32 := 0#32
  ![v3.toNat, 0, 0]
def k0_off8 (i : grid0.Coords) : Fin 2 → Nat :=
  let arg0 : BitVec 32 := BitVec.ofNat 32 (i 0).val
  let c3_i32 : BitVec 32 := 3#32
  let v3 : BitVec 32 := Scalar.remsi arg0 c3_i32
  let c1_i32_48 : BitVec 32 := 1#32
  ![v3.toNat, 1]
def k0_off9 (i : grid0.Coords) : Fin 3 → Nat :=
  let arg0 : BitVec 32 := BitVec.ofNat 32 (i 0).val
  let c3_i32 : BitVec 32 := 3#32
  let v3 : BitVec 32 := Scalar.remsi arg0 c3_i32
  let c1024_i32_50 : BitVec 32 := 1024#32
  let c0_i32_51 : BitVec 32 := 0#32
  ![v3.toNat, 1024, 0]
def k0_off10 (i : grid0.Coords) : Fin 2 → Nat :=
  let arg0 : BitVec 32 := BitVec.ofNat 32 (i 0).val
  let c3_i32 : BitVec 32 := 3#32
  let v3 : BitVec 32 := Scalar.remsi arg0 c3_i32
  let c0_i32_4 : BitVec 32 := 0#32
  ![v3.toNat, 0]
def k0_off11 (i : grid0.Coords) : Fin 3 → Nat :=
  let arg0 : BitVec 32 := BitVec.ofNat 32 (i 0).val
  let c3_i32 : BitVec 32 := 3#32
  let v3 : BitVec 32 := Scalar.remsi arg0 c3_i32
  let c0_i32_5 : BitVec 32 := 0#32
  let c0_i32_6 : BitVec 32 := 0#32
  ![v3.toNat, 0, 0]
def k0_off12 (i : grid0.Coords) (c0_i32_3 : BitVec 32) : Fin 2 → Nat :=
  let arg0 : BitVec 32 := BitVec.ofNat 32 (i 0).val
  let c2048_i32 : BitVec 32 := 2048#32
  let v7 : BitVec 32 := Scalar.muli arg0 c2048_i32
  let v8 : BitVec 32 := Scalar.addi v7 c0_i32_3
  let c0_i32_7 : BitVec 32 := 0#32
  ![v8.toNat, 0]
def k0_off13 (i : grid0.Coords) : Fin 3 → Nat :=
  let arg0 : BitVec 32 := BitVec.ofNat 32 (i 0).val
  let c3_i32 : BitVec 32 := 3#32
  let v3 : BitVec 32 := Scalar.remsi arg0 c3_i32
  let v14 : Index := Scalar.indexCast v3
  let c0 : Index := 0#32
  let c0_8 : Index := 0#32
  ![v14.toNat, 0, 0]
def k0_off14 (i : grid0.Coords) : Fin 2 → Nat :=
  let arg0 : BitVec 32 := BitVec.ofNat 32 (i 0).val
  let c3_i32 : BitVec 32 := 3#32
  let v3 : BitVec 32 := Scalar.remsi arg0 c3_i32
  let c1_i32 : BitVec 32 := 1#32
  ![v3.toNat, 1]
def k0_off15 (i : grid0.Coords) : Fin 3 → Nat :=
  let arg0 : BitVec 32 := BitVec.ofNat 32 (i 0).val
  let c3_i32 : BitVec 32 := 3#32
  let v3 : BitVec 32 := Scalar.remsi arg0 c3_i32
  let c1024_i32_20 : BitVec 32 := 1024#32
  let c0_i32_21 : BitVec 32 := 0#32
  ![v3.toNat, 1024, 0]
def k0_off16 (i : grid0.Coords) : Fin 3 → Nat :=
  let arg0 : BitVec 32 := BitVec.ofNat 32 (i 0).val
  let c3_i32 : BitVec 32 := 3#32
  let v3 : BitVec 32 := Scalar.remsi arg0 c3_i32
  let v37 : Index := Scalar.indexCast v3
  let c1024 : Index := 1024#32
  let c0_23 : Index := 0#32
  ![v37.toNat, 1024, 0]
def k0_cond3 (i : grid0.Coords) : BitVec 1 :=
  let arg0 : BitVec 32 := BitVec.ofNat 32 (i 0).val
  let c3_i32_34 : BitVec 32 := 3#32
  let v53 : BitVec 32 := Scalar.addi arg0 c3_i32_34
  let c4_i32 : BitVec 32 := 4#32
  let v54 : BitVec 1 := Scalar.cmpi .slt v53 c4_i32
  let v55 : BitVec 32 := Scalar.extui v54
  let c0_i32_35 : BitVec 32 := 0#32
  let v56 : BitVec 1 := Scalar.cmpi .ne v55 c0_i32_35
  v56

def k0_off17 (i : grid0.Coords) : Fin 2 → Nat :=
  let arg0 : BitVec 32 := BitVec.ofNat 32 (i 0).val
  let c3_i32_38 : BitVec 32 := 3#32
  let v60 : BitVec 32 := Scalar.addi arg0 c3_i32_38
  let c3_i32_39 : BitVec 32 := 3#32
  let v61 : BitVec 32 := Scalar.remsi v60 c3_i32_39
  let c0_i32_42 : BitVec 32 := 0#32
  ![v61.toNat, 0]
def k0_off18 (i : grid0.Coords) : Fin 3 → Nat :=
  let arg0 : BitVec 32 := BitVec.ofNat 32 (i 0).val
  let c3_i32_38 : BitVec 32 := 3#32
  let v60 : BitVec 32 := Scalar.addi arg0 c3_i32_38
  let c3_i32_39 : BitVec 32 := 3#32
  let v61 : BitVec 32 := Scalar.remsi v60 c3_i32_39
  let c0_i32_43 : BitVec 32 := 0#32
  let c0_i32_44 : BitVec 32 := 0#32
  ![v61.toNat, 0, 0]
def k0_off19 (i : grid0.Coords) (c0_i32_41 : BitVec 32) : Fin 2 → Nat :=
  let arg0 : BitVec 32 := BitVec.ofNat 32 (i 0).val
  let c3_i32_38 : BitVec 32 := 3#32
  let v60 : BitVec 32 := Scalar.addi arg0 c3_i32_38
  let c2048_i32_40 : BitVec 32 := 2048#32
  let v62 : BitVec 32 := Scalar.muli v60 c2048_i32_40
  let v63 : BitVec 32 := Scalar.addi v62 c0_i32_41
  let c0_i32_45 : BitVec 32 := 0#32
  ![v63.toNat, 0]
def k0_off20 (i : grid0.Coords) : Fin 2 → Nat :=
  let arg0 : BitVec 32 := BitVec.ofNat 32 (i 0).val
  let c3_i32_38 : BitVec 32 := 3#32
  let v60 : BitVec 32 := Scalar.addi arg0 c3_i32_38
  let c3_i32_39 : BitVec 32 := 3#32
  let v61 : BitVec 32 := Scalar.remsi v60 c3_i32_39
  let c1_i32_48 : BitVec 32 := 1#32
  ![v61.toNat, 1]
def k0_off21 (i : grid0.Coords) : Fin 3 → Nat :=
  let arg0 : BitVec 32 := BitVec.ofNat 32 (i 0).val
  let c3_i32_38 : BitVec 32 := 3#32
  let v60 : BitVec 32 := Scalar.addi arg0 c3_i32_38
  let c3_i32_39 : BitVec 32 := 3#32
  let v61 : BitVec 32 := Scalar.remsi v60 c3_i32_39
  let c1024_i32_49 : BitVec 32 := 1024#32
  let c0_i32_50 : BitVec 32 := 0#32
  ![v61.toNat, 1024, 0]
-- ==== ReferenceIdeal.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .i1⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S1x2048x1024, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_cst_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩

abbrev nD : Nat := 1
abbrev τ : Topo := Topo.v7x

variable {F : FTy → Type} [FloatOps F]
-- ==== Proof.Names.lean ====
/-
  The names the proof gives the kernel's pieces. The kernel keeps two rings of three slots, each slot two halves of
  1024 rows, and copies the 8192 rows of the sequence through them in four chunks of two halves. Here are the operands
  as whole buffers, the half-slots of the two rings, the half-chunks of the two arrays in HBM, the semaphore of each
  half-slot, and the equations saying that the windows the kernel slices at a grid point are those.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.Proof.Add

open Cert.KernelIdeal Cert.KernelIdeal.Gen
open Idealize.ShloMosaic Idealize.ShloMosaic.TcCoe Idealize.ShloMosaic.Tactic

/-! ## The operands -/

/-- The sequence's rows, flattened over the batch. -/
abbrev xM : Memref sig .tc .hbm S8192x1024 .f32 := Memref.whole main_v0
/-- The embedding table. -/
abbrev tM : Memref sig .tc .hbm S2048x1024 .f32 := Memref.whole main_arg1
/-- The result's rows. -/
abbrev oM : Memref sig .tc .hbm S8192x1024 .f32 := Memref.whole main_v1
/-- The ring the rows are copied into. -/
abbrev inM : Memref sig .tc .vmem S3x2048x1024 .f32 := Memref.whole cc0_scratch0
/-- The ring the sums are copied out of. -/
abbrev outM : Memref sig .tc .vmem S3x2048x1024 .f32 := Memref.whole cc0_scratch1
/-- The buffer that keeps the scaled table. -/
abbrev tbM : Memref sig .tc .vmem S2048x1024 .f32 := Memref.whole cc0_scratch2

/-! ## The pieces -/

/-- Half `h` of chunk `b` starts at row `2048 b + 1024 h`; -/
abbrev rowOff (b : Fin 4) (h : Fin 2) : Fin 2 → Nat := ![2048 * b.val + 1024 * h.val, 0]
theorem rowOff_inb (b : Fin 4) (h : Fin 2) : ∀ a, rowOff b h a + S1024x1024.size a ≤ S8192x1024.size a := by
  have := b.isLt; have := h.isLt; intro a; fin_cases a
  · show 2048 * b.val + 1024 * h.val + 1024 ≤ 8192; omega
  · show 0 + 1024 ≤ 1024; omega
/-- half `h` of slot `s` at row `1024 h` of the slot; -/
abbrev slotOff (s : Fin 3) (h : Fin 2) : Fin 3 → Nat := ![s.val, 1024 * h.val, 0]
theorem slotOff_inb (s : Fin 3) (h : Fin 2) : ∀ a, slotOff s h a + S1x1024x1024.size a ≤ S3x2048x1024.size a := by
  have := s.isLt; have := h.isLt; intro a; fin_cases a
  · show s.val + 1 ≤ 3; omega
  · show 1024 * h.val + 1024 ≤ 2048; omega
  · show 0 + 1024 ≤ 1024; omega
/-- its semaphore is entry `(s, h)` of the array of semaphores. -/
abbrev semOff (s : Fin 3) (h : Fin 2) : Fin 2 → Nat := ![s.val, h.val]
theorem semOff_inb (s : Fin 3) (h : Fin 2) : ∀ a, semOff s h a + S1x1.size a ≤ S3x2.size a := by
  have := s.isLt; have := h.isLt; intro a; fin_cases a
  · show s.val + 1 ≤ 3; omega
  · show h.val + 1 ≤ 2; omega

/-- Half `h` of chunk `b` of the sequence. -/
def xB (b : Fin 4) (h : Fin 2) : Memref sig .tc .hbm S1024x1024 .f32 :=
  xM.slice (Rect.unit (s := S8192x1024) (rowOff b h) S1024x1024.size (rowOff_inb b h)) (fun _ => rfl)
/-- Half `h` of chunk `b` of the result. -/
def oB (b : Fin 4) (h : Fin 2) : Memref sig .tc .hbm S1024x1024 .f32 :=
  oM.slice (Rect.unit (s := S8192x1024) (rowOff b h) S1024x1024.size (rowOff_inb b h)) (fun _ => rfl)
/-- Half `h` of slot `s` of the ring the rows are copied into. -/
def inS (s : Fin 3) (h : Fin 2) : Memref sig .tc .vmem S1024x1024 .f32 :=
  (inM.slice (Rect.unit (s := S3x2048x1024) (slotOff s h) S1x1024x1024.size (slotOff_inb s h)) (fun _ => rfl)).squeeze S1024x1024 squeezes_S1x1024x1024_S1024x1024
/-- Half `h` of slot `s` of the ring the sums are copied out of. -/
def outS (s : Fin 3) (h : Fin 2) : Memref sig .tc .vmem S1024x1024 .f32 :=
  (outM.slice (Rect.unit (s := S3x2048x1024) (slotOff s h) S1x1024x1024.size (slotOff_inb s h)) (fun _ => rfl)).squeeze S1024x1024 squeezes_S1x1024x1024_S1024x1024
/-- The semaphore of the copy into half `h` of slot `s`. -/
def ldC (s : Fin 3) (h : Fin 2) : DmaSems sig S_ :=
  (cc0_scratch3.slice (Rect.unit (s := S3x2) (semOff s h) S1x1.size (semOff_inb s h))).squeeze S_ squeezes_S1x1_S_
/-- The semaphore of the copy out of half `h` of slot `s`. -/
def stC (s : Fin 3) (h : Fin 2) : DmaSems sig S_ :=
  (cc0_scratch4.slice (Rect.unit (s := S3x2) (semOff s h) S1x1.size (semOff_inb s h))).squeeze S_ squeezes_S1x1_S_

instance (s : Fin 3) (h : Fin 2) : ClosedOff (slotOff s h) := ⟨slotOff s h, rfl⟩
instance (b : Fin 4) (h : Fin 2) : ClosedOff (rowOff b h) := ⟨rowOff b h, rfl⟩

/-! ## A grid point's slot and chunk -/

theorem coord_lt (i : grid0.Coords) : (i 0).val < 4 := (i 0).isLt
/-- The slot of grid point `i`; -/
def sl (i : grid0.Coords) : Fin 3 := ⟨(i 0).val % 3, Nat.mod_lt _ (by decide)⟩
/-- its chunk. -/
def bk (i : grid0.Coords) : Fin 4 := ⟨(i 0).val, coord_lt i⟩

theorem sl_zero (i : grid0.Coords) (hi : (i 0).val = 0) : sl i = 0 := Fin.ext (by simp [sl, hi])
theorem bk_zero (i : grid0.Coords) (hi : (i 0).val = 0) : bk i = 0 := Fin.ext (by simp [bk, hi])
theorem sl_three (i : grid0.Coords) (hi : (i 0).val = 3) : sl i = 0 := Fin.ext (by simp [sl, hi])
theorem bk_three (i : grid0.Coords) (hi : (i 0).val = 3) : bk i = 3 := Fin.ext (by simp [bk, hi])

/-! ## The kernel's windows are those pieces -/

theorem ldC_congr {off : Fin 2 → Nat} {s : Fin 3} {h : Fin 2} (e : off = semOff s h) (hh) :
    (cc0_scratch3.slice (Rect.unit (s := S3x2) off S1x1.size hh)).squeeze S_ squeezes_S1x1_S_ = ldC s h :=
  congrArg (fun A : DmaSems sig S1x1 => A.squeeze S_ squeezes_S1x1_S_) (SemArray.slice_unit_congr _ e _ _)
theorem stC_congr {off : Fin 2 → Nat} {s : Fin 3} {h : Fin 2} (e : off = semOff s h) (hh) :
    (cc0_scratch4.slice (Rect.unit (s := S3x2) off S1x1.size hh)).squeeze S_ squeezes_S1x1_S_ = stC s h :=
  congrArg (fun A : DmaSems sig S1x1 => A.squeeze S_ squeezes_S1x1_S_) (SemArray.slice_unit_congr _ e _ _)
theorem inS_congr {off : Fin 3 → Nat} {s : Fin 3} {h : Fin 2} (e : off = slotOff s h) (hh hs) :
    (inM.slice (Rect.unit (s := S3x2048x1024) off S1x1024x1024.size hh) hs).squeeze S1024x1024 squeezes_S1x1024x1024_S1024x1024 = inS s h :=
  congrArg (fun M : Memref sig .tc .vmem S1x1024x1024 .f32 => M.squeeze S1024x1024 squeezes_S1x1024x1024_S1024x1024) (Memref.slice_unit_congr _ e _ _ _ _)
theorem outS_congr {off : Fin 3 → Nat} {s : Fin 3} {h : Fin 2} (e : off = slotOff s h) (hh hs) :
    (outM.slice (Rect.unit (s := S3x2048x1024) off S1x1024x1024.size hh) hs).squeeze S1024x1024 squeezes_S1x1024x1024_S1024x1024 = outS s h :=
  congrArg (fun M : Memref sig .tc .vmem S1x1024x1024 .f32 => M.squeeze S1024x1024 squeezes_S1x1024x1024_S1024x1024) (Memref.slice_unit_congr _ e _ _ _ _)
theorem xB_congr {off : Fin 2 → Nat} {b : Fin 4} {h : Fin 2} (e : off = rowOff b h) (hh hs) :
    xM.slice (Rect.unit (s := S8192x1024) off S1024x1024.size hh) hs = xB b h := Memref.slice_unit_congr _ e _ _ hs (fun _ => rfl)
theorem oB_congr {off : Fin 2 → Nat} {b : Fin 4} {h : Fin 2} (e : off = rowOff b h) (hh hs) :
    oM.slice (Rect.unit (s := S8192x1024) off S1024x1024.size hh) hs = oB b h := Memref.slice_unit_congr _ e _ _ hs (fun _ => rfl)

/-! ### The first point's copies in, one set of equations a slot -/

section First

@[sl_canon] theorem ldC_p00 (hh) : (cc0_scratch3.slice (Rect.unit (s := S3x2) (k0_off1 0#32) S1x1.size hh)).squeeze S_ squeezes_S1x1_S_ = ldC 0 0 := ldC_congr (by decide) _
@[sl_canon] theorem ldC_p01 (hh) : (cc0_scratch3.slice (Rect.unit (s := S3x2) (k0_off3 0#32) S1x1.size hh)).squeeze S_ squeezes_S1x1_S_ = ldC 0 1 := ldC_congr (by decide) _
@[sl_canon] theorem ldC_p10 (hh) : (cc0_scratch3.slice (Rect.unit (s := S3x2) (k0_off1 1#32) S1x1.size hh)).squeeze S_ squeezes_S1x1_S_ = ldC 1 0 := ldC_congr (by decide) _
@[sl_canon] theorem ldC_p11 (hh) : (cc0_scratch3.slice (Rect.unit (s := S3x2) (k0_off3 1#32) S1x1.size hh)).squeeze S_ squeezes_S1x1_S_ = ldC 1 1 := ldC_congr (by decide) _
@[sl_canon] theorem ldC_p20 (hh) : (cc0_scratch3.slice (Rect.unit (s := S3x2) (k0_off1 2#32) S1x1.size hh)).squeeze S_ squeezes_S1x1_S_ = ldC 2 0 := ldC_congr (by decide) _
@[sl_canon] theorem ldC_p21 (hh) : (cc0_scratch3.slice (Rect.unit (s := S3x2) (k0_off3 2#32) S1x1.size hh)).squeeze S_ squeezes_S1x1_S_ = ldC 2 1 := ldC_congr (by decide) _
@[sl_canon] theorem inS_p00 (hh hs) : (inM.slice (Rect.unit (s := S3x2048x1024) (k0_off2 0#32) S1x1024x1024.size hh) hs).squeeze S1024x1024 squeezes_S1x1024x1024_S1024x1024 = inS 0 0 := inS_congr (by decide) _ _
@[sl_canon] theorem inS_p01 (hh hs) : (inM.slice (Rect.unit (s := S3x2048x1024) (k0_off4 0#32) S1x1024x1024.size hh) hs).squeeze S1024x1024 squeezes_S1x1024x1024_S1024x1024 = inS 0 1 := inS_congr (by decide) _ _
@[sl_canon] theorem inS_p10 (hh hs) : (inM.slice (Rect.unit (s := S3x2048x1024) (k0_off2 1#32) S1x1024x1024.size hh) hs).squeeze S1024x1024 squeezes_S1x1024x1024_S1024x1024 = inS 1 0 := inS_congr (by decide) _ _
@[sl_canon] theorem inS_p11 (hh hs) : (inM.slice (Rect.unit (s := S3x2048x1024) (k0_off4 1#32) S1x1024x1024.size hh) hs).squeeze S1024x1024 squeezes_S1x1024x1024_S1024x1024 = inS 1 1 := inS_congr (by decide) _ _
@[sl_canon] theorem inS_p20 (hh hs) : (inM.slice (Rect.unit (s := S3x2048x1024) (k0_off2 2#32) S1x1024x1024.size hh) hs).squeeze S1024x1024 squeezes_S1x1024x1024_S1024x1024 = inS 2 0 := inS_congr (by decide) _ _
@[sl_canon] theorem inS_p21 (hh hs) : (inM.slice (Rect.unit (s := S3x2048x1024) (k0_off4 2#32) S1x1024x1024.size hh) hs).squeeze S1024x1024 squeezes_S1x1024x1024_S1024x1024 = inS 2 1 := inS_congr (by decide) _ _
@[sl_canon] theorem xB_p00 (hh hs) : xM.slice (Rect.unit (s := S8192x1024) ![0, 0] S1024x1024.size hh) hs = xB 0 0 := xB_congr (by decide) _ _
@[sl_canon] theorem xB_p01 (hh hs) : xM.slice (Rect.unit (s := S8192x1024) ![1024, 0] S1024x1024.size hh) hs = xB 0 1 := xB_congr (by decide) _ _
@[sl_canon] theorem xB_p10 (hh hs) : xM.slice (Rect.unit (s := S8192x1024) ![2048, 0] S1024x1024.size hh) hs = xB 1 0 := xB_congr (by decide) _ _
@[sl_canon] theorem xB_p11 (hh hs) : xM.slice (Rect.unit (s := S8192x1024) ![3072, 0] S1024x1024.size hh) hs = xB 1 1 := xB_congr (by decide) _ _
@[sl_canon] theorem xB_p20 (hh hs) : xM.slice (Rect.unit (s := S8192x1024) ![4096, 0] S1024x1024.size hh) hs = xB 2 0 := xB_congr (by decide) _ _
@[sl_canon] theorem xB_p21 (hh hs) : xM.slice (Rect.unit (s := S8192x1024) ![5120, 0] S1024x1024.size hh) hs = xB 2 1 := xB_congr (by decide) _ _

end First

/-! ### Every point's windows: its slot and its chunk -/

section Point
variable (i : grid0.Coords)

@[sl_canon] theorem ldC_i0 (hh) : (cc0_scratch3.slice (Rect.unit (s := S3x2) (k0_off10 i) S1x1.size hh)).squeeze S_ squeezes_S1x1_S_ = ldC (sl i) 0 := ldC_congr (k0_off10_eq i) _
@[sl_canon] theorem ldC_i1 (hh) : (cc0_scratch3.slice (Rect.unit (s := S3x2) (k0_off14 i) S1x1.size hh)).squeeze S_ squeezes_S1x1_S_ = ldC (sl i) 1 := ldC_congr (k0_off14_eq i) _
@[sl_canon] theorem stC_i0 (hh) : (cc0_scratch4.slice (Rect.unit (s := S3x2) (k0_off10 i) S1x1.size hh)).squeeze S_ squeezes_S1x1_S_ = stC (sl i) 0 := stC_congr (k0_off10_eq i) _
@[sl_canon] theorem stC_i1 (hh) : (cc0_scratch4.slice (Rect.unit (s := S3x2) (k0_off14 i) S1x1.size hh)).squeeze S_ squeezes_S1x1_S_ = stC (sl i) 1 := stC_congr (k0_off14_eq i) _
@[sl_canon] theorem inS_i0 (hh hs) : (inM.slice (Rect.unit (s := S3x2048x1024) (k0_off11 i) S1x1024x1024.size hh) hs).squeeze S1024x1024 squeezes_S1x1024x1024_S1024x1024 = inS (sl i) 0 := inS_congr (k0_off11_eq i) _ _
@[sl_canon] theorem inS_i1 (hh hs) : (inM.slice (Rect.unit (s := S3x2048x1024) (k0_off15 i) S1x1024x1024.size hh) hs).squeeze S1024x1024 squeezes_S1x1024x1024_S1024x1024 = inS (sl i) 1 := inS_congr (k0_off15_eq i) _ _
@[sl_canon] theorem outS_i0 (hh hs) : (outM.slice (Rect.unit (s := S3x2048x1024) (k0_off11 i) S1x1024x1024.size hh) hs).squeeze S1024x1024 squeezes_S1x1024x1024_S1024x1024 = outS (sl i) 0 := outS_congr (k0_off11_eq i) _ _
@[sl_canon] theorem outS_i1 (hh hs) : (outM.slice (Rect.unit (s := S3x2048x1024) (k0_off15 i) S1x1024x1024.size hh) hs).squeeze S1024x1024 squeezes_S1x1024x1024_S1024x1024 = outS (sl i) 1 := outS_congr (k0_off15_eq i) _ _
@[sl_canon] theorem xB_i0 (hh hs) : xM.slice (Rect.unit (s := S8192x1024) (k0_off12 i 0#32) S1024x1024.size hh) hs = xB (bk i) 0 := xB_congr (k0_off12_eq i 0) _ _
@[sl_canon] theorem xB_i1 (hh hs) : xM.slice (Rect.unit (s := S8192x1024) (k0_off12 i 1024#32) S1024x1024.size hh) hs = xB (bk i) 1 := xB_congr (k0_off12_eq i 1) _ _
@[sl_canon] theorem oB_i0 (hh hs) : oM.slice (Rect.unit (s := S8192x1024) (k0_off12 i 0#32) S1024x1024.size hh) hs = oB (bk i) 0 := oB_congr (k0_off12_eq i 0) _ _
@[sl_canon] theorem oB_i1 (hh hs) : oM.slice (Rect.unit (s := S8192x1024) (k0_off12 i 1024#32) S1024x1024.size hh) hs = oB (bk i) 1 := oB_congr (k0_off12_eq i 1) _ _

/-- A point's windows for its two loads and its two stores are its half-slots too. -/
theorem off13_eq : k0_off13 i = slotOff (sl i) 0 := k0_off13_eq i
theorem off16_eq : k0_off16 i = slotOff (sl i) 1 := k0_off16_eq i
instance : ClosedOff (k0_off13 i) := ⟨slotOff (sl i) 0, off13_eq i⟩
instance : ClosedOff (k0_off16 i) := ⟨slotOff (sl i) 1, off16_eq i⟩

/-! ### The first point's copy ahead: chunk 3 into slot 0 -/

@[sl_canon] theorem ldC_a0 (hi : (i 0).val = 0) (hh) : (cc0_scratch3.slice (Rect.unit (s := S3x2) (k0_off17 i) S1x1.size hh)).squeeze S_ squeezes_S1x1_S_ = ldC 0 0 := ldC_congr (by rw [k0_off17_eq, hi]; rfl) _
@[sl_canon] theorem ldC_a1 (hi : (i 0).val = 0) (hh) : (cc0_scratch3.slice (Rect.unit (s := S3x2) (k0_off20 i) S1x1.size hh)).squeeze S_ squeezes_S1x1_S_ = ldC 0 1 := ldC_congr (by rw [k0_off20_eq, hi]; rfl) _
@[sl_canon] theorem inS_a0 (hi : (i 0).val = 0) (hh hs) : (inM.slice (Rect.unit (s := S3x2048x1024) (k0_off18 i) S1x1024x1024.size hh) hs).squeeze S1024x1024 squeezes_S1x1024x1024_S1024x1024 = inS 0 0 := inS_congr (by rw [k0_off18_eq, hi]; rfl) _ _
@[sl_canon] theorem inS_a1 (hi : (i 0).val = 0) (hh hs) : (inM.slice (Rect.unit (s := S3x2048x1024) (k0_off21 i) S1x1024x1024.size hh) hs).squeeze S1024x1024 squeezes_S1x1024x1024_S1024x1024 = inS 0 1 := inS_congr (by rw [k0_off21_eq, hi]; rfl) _ _
@[sl_canon] theorem xB_a0 (hi : (i 0).val = 0) (hh hs) : xM.slice (Rect.unit (s := S8192x1024) (k0_off19 i 0#32) S1024x1024.size hh) hs = xB 3 0 := xB_congr ((k0_off19_eq i 0).trans (by rw [hi]; rfl)) _ _
@[sl_canon] theorem xB_a1 (hi : (i 0).val = 0) (hh hs) : xM.slice (Rect.unit (s := S8192x1024) (k0_off19 i 1024#32) S1024x1024.size hh) hs = xB 3 1 := xB_congr ((k0_off19_eq i 1).trans (by rw [hi]; rfl)) _ _

/-! ### The last point's waits for earlier copies out: chunk 0 before its own, chunks 1, 2 and 3 after it -/

theorem off6_eq : ∀ i : grid0.Coords, (i 0).val = 3 → ∀ (r : Fin 2), k0_off6 i (BitVec.ofNat 32 (1024 * r.val)) = ![1024 * r.val, 0] := by decide +kernel
@[sl_canon] theorem stC_r0 (hi : (i 0).val = 3) (hh) : (cc0_scratch4.slice (Rect.unit (s := S3x2) (k0_off5 i) S1x1.size hh)).squeeze S_ squeezes_S1x1_S_ = stC 0 0 := stC_congr (by rw [k0_off5_eq, hi]; rfl) _
@[sl_canon] theorem stC_r1 (hi : (i 0).val = 3) (hh) : (cc0_scratch4.slice (Rect.unit (s := S3x2) (k0_off8 i) S1x1.size hh)).squeeze S_ squeezes_S1x1_S_ = stC 0 1 := stC_congr (by rw [k0_off8_eq, hi]; rfl) _
@[sl_canon] theorem outS_r0 (hi : (i 0).val = 3) (hh hs) : (outM.slice (Rect.unit (s := S3x2048x1024) (k0_off7 i) S1x1024x1024.size hh) hs).squeeze S1024x1024 squeezes_S1x1024x1024_S1024x1024 = outS 0 0 := outS_congr (by rw [k0_off7_eq, hi]; rfl) _ _
@[sl_canon] theorem outS_r1 (hi : (i 0).val = 3) (hh hs) : (outM.slice (Rect.unit (s := S3x2048x1024) (k0_off9 i) S1x1024x1024.size hh) hs).squeeze S1024x1024 squeezes_S1x1024x1024_S1024x1024 = outS 0 1 := outS_congr (by rw [k0_off9_eq, hi]; rfl) _ _
@[sl_canon] theorem oB_r0 (hi : (i 0).val = 3) (hh hs) : oM.slice (Rect.unit (s := S8192x1024) (k0_off6 i 0#32) S1024x1024.size hh) hs = oB 0 0 := oB_congr (off6_eq i hi 0) _ _
@[sl_canon] theorem oB_r1 (hi : (i 0).val = 3) (hh hs) : oM.slice (Rect.unit (s := S8192x1024) (k0_off6 i 1024#32) S1024x1024.size hh) hs = oB 0 1 := oB_congr (off6_eq i hi 1) _ _

end Point

section Last

@[sl_canon] theorem stC_e00 (hh) : (cc0_scratch4.slice (Rect.unit (s := S3x2) ![0, 0] S1x1.size hh)).squeeze S_ squeezes_S1x1_S_ = stC 0 0 := stC_congr (by decide) _
@[sl_canon] theorem stC_e01 (hh) : (cc0_scratch4.slice (Rect.unit (s := S3x2) ![0, 1] S1x1.size hh)).squeeze S_ squeezes_S1x1_S_ = stC 0 1 := stC_congr (by decide) _
@[sl_canon] theorem stC_e10 (hh) : (cc0_scratch4.slice (Rect.unit (s := S3x2) ![1, 0] S1x1.size hh)).squeeze S_ squeezes_S1x1_S_ = stC 1 0 := stC_congr (by decide) _
@[sl_canon] theorem stC_e11 (hh) : (cc0_scratch4.slice (Rect.unit (s := S3x2) ![1, 1] S1x1.size hh)).squeeze S_ squeezes_S1x1_S_ = stC 1 1 := stC_congr (by decide) _
@[sl_canon] theorem stC_e20 (hh) : (cc0_scratch4.slice (Rect.unit (s := S3x2) ![2, 0] S1x1.size hh)).squeeze S_ squeezes_S1x1_S_ = stC 2 0 := stC_congr (by decide) _
@[sl_canon] theorem stC_e21 (hh) : (cc0_scratch4.slice (Rect.unit (s := S3x2) ![2, 1] S1x1.size hh)).squeeze S_ squeezes_S1x1_S_ = stC 2 1 := stC_congr (by decide) _
@[sl_canon] theorem outS_e00 (hh hs) : (outM.slice (Rect.unit (s := S3x2048x1024) ![0, 0, 0] S1x1024x1024.size hh) hs).squeeze S1024x1024 squeezes_S1x1024x1024_S1024x1024 = outS 0 0 := outS_congr (by decide) _ _
@[sl_canon] theorem outS_e01 (hh hs) : (outM.slice (Rect.unit (s := S3x2048x1024) ![0, 1024, 0] S1x1024x1024.size hh) hs).squeeze S1024x1024 squeezes_S1x1024x1024_S1024x1024 = outS 0 1 := outS_congr (by decide) _ _
@[sl_canon] theorem outS_e10 (hh hs) : (outM.slice (Rect.unit (s := S3x2048x1024) ![1, 0, 0] S1x1024x1024.size hh) hs).squeeze S1024x1024 squeezes_S1x1024x1024_S1024x1024 = outS 1 0 := outS_congr (by decide) _ _
@[sl_canon] theorem outS_e11 (hh hs) : (outM.slice (Rect.unit (s := S3x2048x1024) ![1, 1024, 0] S1x1024x1024.size hh) hs).squeeze S1024x1024 squeezes_S1x1024x1024_S1024x1024 = outS 1 1 := outS_congr (by decide) _ _
@[sl_canon] theorem outS_e20 (hh hs) : (outM.slice (Rect.unit (s := S3x2048x1024) ![2, 0, 0] S1x1024x1024.size hh) hs).squeeze S1024x1024 squeezes_S1x1024x1024_S1024x1024 = outS 2 0 := outS_congr (by decide) _ _
@[sl_canon] theorem outS_e21 (hh hs) : (outM.slice (Rect.unit (s := S3x2048x1024) ![2, 1024, 0] S1x1024x1024.size hh) hs).squeeze S1024x1024 squeezes_S1x1024x1024_S1024x1024 = outS 2 1 := outS_congr (by decide) _ _
@[sl_canon] theorem oB_e10 (hh hs) : oM.slice (Rect.unit (s := S8192x1024) ![2048, 0] S1024x1024.size hh) hs = oB 1 0 := oB_congr (by decide) _ _
@[sl_canon] theorem oB_e11 (hh hs) : oM.slice (Rect.unit (s := S8192x1024) ![3072, 0] S1024x1024.size hh) hs = oB 1 1 := oB_congr (by decide) _ _
@[sl_canon] theorem oB_e20 (hh hs) : oM.slice (Rect.unit (s := S8192x1024) ![4096, 0] S1024x1024.size hh) hs = oB 2 0 := oB_congr (by decide) _ _
@[sl_canon] theorem oB_e21 (hh hs) : oM.slice (Rect.unit (s := S8192x1024) ![5120, 0] S1024x1024.size hh) hs = oB 2 1 := oB_congr (by decide) _ _
@[sl_canon] theorem oB_e30 (hh hs) : oM.slice (Rect.unit (s := S8192x1024) ![6144, 0] S1024x1024.size hh) hs = oB 3 0 := oB_congr (by decide) _ _
@[sl_canon] theorem oB_e31 (hh hs) : oM.slice (Rect.unit (s := S8192x1024) ![7168, 0] S1024x1024.size hh) hs = oB 3 1 := oB_congr (by decide) _ _

end Last

end Cert.Proof.Add

end
-- ==== Proof.Pieces.lean ====
/-
  What the proof holds between two grid points: a half-chunk at home, a half-slot held, a semaphore at zero, a copy in
  flight; and the contents each of them has, as functions of the sequence and of the table.
-/
module

public import proofs.«01_k».proof.Proof.Names
public import Idealize.ShloMosaic.Lib.Pointwise

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

/-! ## Contents -/

/-- A slot of the ring of rows that holds chunk `b`: row `r` of the slot is row `2048 b + r` of the sequence. -/
def rowsC (X : S8192x1024.Idx → Elt F .f32) (b : Fin 4) : S3x2048x1024.Idx → Elt F .f32 :=
  fun y => X (ix2 ⟨2048 * b.val + (y 1).val, by have := b.isLt; have : (y 1).val < 2048 := (y 1).isLt; omega⟩ (y 2))
/-- The scaled table: each row of the table over its length, where that exceeds one. -/
def scaledC (T : S2048x1024.Idx → Elt F .f32) : S2048x1024.Idx → Elt F .f32 := k0_pay2 (F := F) T
/-- The result: to row `r` of the sequence the row `r % 2048` of the scaled table is added. -/
def sumC (X : S8192x1024.Idx → Elt F .f32) (T : S2048x1024.Idx → Elt F .f32) : S8192x1024.Idx → Elt F .f32 :=
  fun y => FloatOps.addf (X y) (scaledC T (ix2 ⟨(y 0).val % 2048, Nat.mod_lt _ (by decide)⟩ (y 1)))

/-! ## Resources -/

section Pieces
variable (c : Dev nD)

/-- Half `h` of chunk `b` of the sequence, at home with the sequence's contents. -/
abbrev xP (X : Buf (Elt F) (xM.view.loc (c : Thread nD τ))) (b : Fin 4) (h : Fin 2) : sProp 𝕄 :=
  (xB b h).view.loc (c : Thread nD τ) ↦[(xB b h).view.set]{fullShare} X
/-- Half `h` of chunk `b` of the result, at contents `g`. -/
abbrev oP (g : Buf (Elt F) (oM.view.loc (c : Thread nD τ))) (b : Fin 4) (h : Fin 2) : sProp 𝕄 :=
  (oB b h).view.loc (c : Thread nD τ) ↦[(oB b h).view.set]{fullShare} g
/-- Half `h` of slot `s` of the ring of rows, at contents `f`. -/
abbrev inP (s : Fin 3) (h : Fin 2) (f : Buf (Elt F) (inM.view.loc (c : Thread nD τ))) : sProp 𝕄 :=
  (inS s h).view.loc (c : Thread nD τ) ↦[(inS s h).view.set]{fullShare} f
/-- Half `h` of slot `s` of the ring of sums, at contents `f`. -/
abbrev outP (s : Fin 3) (h : Fin 2) (f : Buf (Elt F) (outM.view.loc (c : Thread nD τ))) : sProp 𝕄 :=
  (outS s h).view.loc (c : Thread nD τ) ↦[(outS s h).view.set]{fullShare} f
/-- The scaled table's buffer at contents `f`. -/
abbrev tbP (f : Buf (Elt F) (tbM.view.loc (c : Thread nD τ))) : sProp 𝕄 :=
  tbM.view.loc (c : Thread nD τ) ↦[tbM.view.set]{fullShare} f
/-- The table at contents `f`. -/
abbrev tP (f : Buf (Elt F) (tM.view.loc (c : Thread nD τ))) : sProp 𝕄 :=
  tM.view.loc (c : Thread nD τ) ↦[tM.view.set]{fullShare} f
/-- The semaphore of the copy into a half-slot at zero; -/
abbrev ldP (s : Fin 3) (h : Fin 2) : sProp 𝕄 := semVal ((c : Thread nD τ), SemLoc.dma (ldC s h).sem) 0
/-- that of the copy out of it; -/
abbrev stP (s : Fin 3) (h : Fin 2) : sProp 𝕄 := semVal ((c : Thread nD τ), SemLoc.dma (stC s h).sem) 0
/-- and that of the table's copy. -/
abbrev tsP : sProp 𝕄 := semVal ((c : Thread nD τ), SemLoc.dma cc0_scratch5.sem) 0
/-- Half `h` of chunk `b` on its way into half `h` of slot `s`: what its arrival hands back. -/
abbrev ldF (X : Buf (Elt F) (xM.view.loc (c : Thread nD τ))) (s : Fin 3) (b : Fin 4) (h : Fin 2) : sProp 𝕄 :=
  Transfers.Flight countersEmb (c : Thread nD τ) (SemLoc.dma (ldC s h).sem) () 131072 iprop(inP c s h (rowsC X b) ∗ xP c X b h)

/-- Half `h` of slot `s` of the ring of sums, at contents `f`, on its way to half `h` of chunk `b` of the result: what its arrival hands back. -/
abbrev stF (X : Buf (Elt F) (xM.view.loc (c : Thread nD τ))) (T : Buf (Elt F) (tM.view.loc (c : Thread nD τ))) (s : Fin 3) (b : Fin 4) (h : Fin 2)
    (f : Buf (Elt F) (outM.view.loc (c : Thread nD τ))) : sProp 𝕄 :=
  Transfers.Flight countersEmb (c : Thread nD τ) (SemLoc.dma (stC s h).sem) () 131072 iprop(oP c (sumC X T) b h ∗ outP c s h f)

end Pieces

end Cert.Proof.Add

end
-- ==== Proof.Split.lean ====
/-
  The launch's buffers cut into the pieces the copies move, and joined again.
-/
module

public import proofs.«01_k».proof.Proof.Pieces
public import Idealize.ShloMosaic.Lib.Ring

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

/-! ## Which elements a piece has -/

theorem mem_xB (b : Fin 4) (h : Fin 2) (y : S8192x1024.Idx) :
    y ∈ (xB b h).view.set ↔ 2048 * b.val + 1024 * h.val ≤ (y 0).val ∧ (y 0).val < 2048 * b.val + 1024 * h.val + 1024 := by
  rw [show (xB b h).view.set = (Rect.unit (s := S8192x1024) (rowOff b h) S1024x1024.size (rowOff_inb b h)).set from View.set_slice_whole _ _]
  refine Rect.mem_set_unit.trans ⟨fun H => H 0, fun H a => ?_⟩
  have : (y 1).val < 1024 := (y 1).isLt
  fin_cases a
  · exact H
  · exact ⟨Nat.zero_le _, by show (y 1).val < 0 + 1024; omega⟩
theorem mem_oB (b : Fin 4) (h : Fin 2) (y : S8192x1024.Idx) :
    y ∈ (oB b h).view.set ↔ 2048 * b.val + 1024 * h.val ≤ (y 0).val ∧ (y 0).val < 2048 * b.val + 1024 * h.val + 1024 := by
  rw [show (oB b h).view.set = (xB b h).view.set from (View.set_slice_whole _ _).trans (View.set_slice_whole _ _).symm]
  exact mem_xB b h y
theorem mem_inS (s : Fin 3) (h : Fin 2) (y : S3x2048x1024.Idx) :
    y ∈ (inS s h).view.set ↔ (y 0).val = s.val ∧ 1024 * h.val ≤ (y 1).val ∧ (y 1).val < 1024 * h.val + 1024 := by
  rw [show (inS s h).view.set = (Rect.unit (s := S3x2048x1024) (slotOff s h) S1x1024x1024.size (slotOff_inb s h)).set from
    (View.set_reshape _ _).trans (View.set_slice_whole _ _)]
  refine Rect.mem_set_unit.trans ⟨fun H => ?_, fun H a => ?_⟩
  · have h0 : s.val ≤ (y 0).val ∧ (y 0).val < s.val + 1 := H 0
    exact ⟨by omega, H 1⟩
  · have : (y 2).val < 1024 := (y 2).isLt
    fin_cases a
    · show s.val ≤ (y 0).val ∧ (y 0).val < s.val + 1; omega
    · exact H.2
    · show 0 ≤ (y 2).val ∧ (y 2).val < 0 + 1024; omega
theorem mem_outS (s : Fin 3) (h : Fin 2) (y : S3x2048x1024.Idx) :
    y ∈ (outS s h).view.set ↔ (y 0).val = s.val ∧ 1024 * h.val ≤ (y 1).val ∧ (y 1).val < 1024 * h.val + 1024 := by
  rw [show (outS s h).view.set = (inS s h).view.set from
    ((View.set_reshape _ _).trans (View.set_slice_whole _ _)).trans ((View.set_reshape _ _).trans (View.set_slice_whole _ _)).symm]
  exact mem_inS s h y

/-! ## The pieces are disjoint, and are all of the buffer -/

/-- Eight sets of rows, 1024 apart. -/
theorem rows_disj (I : Fin 4 × Fin 2 → Finset S8192x1024.Idx)
    (hI : ∀ p y, y ∈ I p ↔ 2048 * p.1.val + 1024 * p.2.val ≤ (y 0).val ∧ (y 0).val < 2048 * p.1.val + 1024 * p.2.val + 1024)
    (p q) (hpq : p ≠ q) : Disjoint (I p) (I q) := by
  refine Finset.disjoint_left.mpr fun y hp hq => hpq ?_
  have h1 := (hI p y).mp hp; have h2 := (hI q y).mp hq
  have := p.2.isLt; have := q.2.isLt
  exact Prod.ext (Fin.ext (by omega)) (Fin.ext (by omega))
theorem rows_cover (I : Fin 4 × Fin 2 → Finset S8192x1024.Idx)
    (hI : ∀ p y, y ∈ I p ↔ 2048 * p.1.val + 1024 * p.2.val ≤ (y 0).val ∧ (y 0).val < 2048 * p.1.val + 1024 * p.2.val + 1024) :
    Finset.univ.biUnion I = Finset.univ := by
  refine Finset.eq_univ_iff_forall.mpr fun y => Finset.mem_biUnion.mpr ?_
  have hy : (y 0).val < 8192 := (y 0).isLt
  exact ⟨(⟨(y 0).val / 2048, by omega⟩, ⟨(y 0).val % 2048 / 1024, by omega⟩), Finset.mem_univ _, (hI _ y).mpr (by constructor <;> (show _; dsimp only; omega))⟩
/-- Six sets of rows of a ring, two a slot. -/
theorem slots_disj (I : Fin 3 × Fin 2 → Finset S3x2048x1024.Idx)
    (hI : ∀ p y, y ∈ I p ↔ (y 0).val = p.1.val ∧ 1024 * p.2.val ≤ (y 1).val ∧ (y 1).val < 1024 * p.2.val + 1024)
    (p q) (hpq : p ≠ q) : Disjoint (I p) (I q) := by
  refine Finset.disjoint_left.mpr fun y hp hq => hpq ?_
  have h1 := (hI p y).mp hp; have h2 := (hI q y).mp hq
  exact Prod.ext (Fin.ext (by omega)) (Fin.ext (by omega))
theorem slots_cover (I : Fin 3 × Fin 2 → Finset S3x2048x1024.Idx)
    (hI : ∀ p y, y ∈ I p ↔ (y 0).val = p.1.val ∧ 1024 * p.2.val ≤ (y 1).val ∧ (y 1).val < 1024 * p.2.val + 1024) :
    Finset.univ.biUnion I = Finset.univ := by
  refine Finset.eq_univ_iff_forall.mpr fun y => Finset.mem_biUnion.mpr ?_
  have h0 : (y 0).val < 3 := (y 0).isLt
  have h1 : (y 1).val < 2048 := (y 1).isLt
  exact ⟨(⟨(y 0).val, h0⟩, ⟨(y 1).val / 1024, by omega⟩), Finset.mem_univ _, (hI _ y).mpr (by dsimp only; omega)⟩

/-! ## Cutting and joining -/

section Split
variable (c : Dev nD)

/-- A sum over the eight half-chunks, -/
theorem sep_rows (Φ : Fin 4 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ
/-- and over the six half-slots, written out. -/
theorem sep_slots (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-- The sequence whole is its eight half-chunks. -/
theorem x_split (f : Buf (Elt F) (xM.view.loc (c : Thread nD τ))) :
    ((c : Thread nD τ).loc main_v0 ↦{fullShare} f : sProp 𝕄)
      = iprop(xP c f 0 0 ∗ xP c f 0 1 ∗ xP c f 1 0 ∗ xP c f 1 1 ∗ xP c f 2 0 ∗ xP c f 2 1 ∗ xP c f 3 0 ∗ xP c f 3 1) :=
  (Ring.pointsTo_blocks (ℓ := (c : Thread nD τ).loc main_v0) (fun p : Fin 4 × Fin 2 => (xB p.1 p.2).view.set)
    (rows_disj _ fun p y => mem_xB p.1 p.2 y) (rows_cover _ fun p y => mem_xB p.1 p.2 y) f).trans (sep_rows _)
/-- The result whole is its eight half-chunks. -/
theorem o_split (f : Buf (Elt F) (oM.view.loc (c : Thread nD τ))) :
    ((c : Thread nD τ).loc main_v1 ↦{fullShare} f : sProp 𝕄)
      = iprop(oP c f 0 0 ∗ oP c f 0 1 ∗ oP c f 1 0 ∗ oP c f 1 1 ∗ oP c f 2 0 ∗ oP c f 2 1 ∗ oP c f 3 0 ∗ oP c f 3 1) :=
  (Ring.pointsTo_blocks (ℓ := (c : Thread nD τ).loc main_v1) (fun p : Fin 4 × Fin 2 => (oB p.1 p.2).view.set)
    (rows_disj _ fun p y => mem_oB p.1 p.2 y) (rows_cover _ fun p y => mem_oB p.1 p.2 y) f).trans (sep_rows _)
/-- A ring whole is its six half-slots; -/
theorem in_split (f : Buf (Elt F) (inM.view.loc (c : Thread nD τ))) :
    ((c : Thread nD τ).loc cc0_scratch0 ↦{fullShare} f : sProp 𝕄)
      = iprop(inP c 0 0 f ∗ inP c 0 1 f ∗ inP c 1 0 f ∗ inP c 1 1 f ∗ inP c 2 0 f ∗ inP c 2 1 f) :=
  (Ring.pointsTo_blocks (ℓ := (c : Thread nD τ).loc cc0_scratch0) (fun p : Fin 3 × Fin 2 => (inS p.1 p.2).view.set)
    (slots_disj _ fun p y => mem_inS p.1 p.2 y) (slots_cover _ fun p y => mem_inS p.1 p.2 y) f).trans (sep_slots _)
theorem out_split (f : Buf (Elt F) (outM.view.loc (c : Thread nD τ))) :
    ((c : Thread nD τ).loc cc0_scratch1 ↦{fullShare} f : sProp 𝕄)
      = iprop(outP c 0 0 f ∗ outP c 0 1 f ∗ outP c 1 0 f ∗ outP c 1 1 f ∗ outP c 2 0 f ∗ outP c 2 1 f) :=
  (Ring.pointsTo_blocks (ℓ := (c : Thread nD τ).loc cc0_scratch1) (fun p : Fin 3 × Fin 2 => (outS p.1 p.2).view.set)
    (slots_disj _ fun p y => mem_outS p.1 p.2 y) (slots_cover _ fun p y => mem_outS p.1 p.2 y) f).trans (sep_slots _)
/-- and half-slots at any contents are a ring at some. -/
theorem in_join (f₀ : Buf (Elt F) (inM.view.loc (c : Thread nD τ))) :
    iprop((∃ f, inP c 0 0 f) ∗ (∃ f, inP c 0 1 f) ∗ (∃ f, inP c 1 0 f) ∗ (∃ f, inP c 1 1 f) ∗ (∃ f, inP c 2 0 f) ∗ (∃ f, inP c 2 1 f))
      ⊢ (iprop(∃ f, (c : Thread nD τ).loc cc0_scratch0 ↦{fullShare} f) : sProp 𝕄) :=
  (Entails.of_eq (sep_slots fun p => iprop(∃ f, inP (F := F) c p.1 p.2 f)).symm).trans
    (Ring.pointsTo_blocks_join_exists (ℓ := (c : Thread nD τ).loc cc0_scratch0) (fun p : Fin 3 × Fin 2 => (inS p.1 p.2).view.set)
      (slots_disj _ fun p y => mem_inS p.1 p.2 y) (slots_cover _ fun p y => mem_inS p.1 p.2 y) f₀)
theorem out_join (f₀ : Buf (Elt F) (outM.view.loc (c : Thread nD τ))) :
    iprop((∃ f, outP c 0 0 f) ∗ (∃ f, outP c 0 1 f) ∗ (∃ f, outP c 1 0 f) ∗ (∃ f, outP c 1 1 f) ∗ (∃ f, outP c 2 0 f) ∗ (∃ f, outP c 2 1 f))
      ⊢ (iprop(∃ f, (c : Thread nD τ).loc cc0_scratch1 ↦{fullShare} f) : sProp 𝕄) :=
  (Entails.of_eq (sep_slots fun p => iprop(∃ f, outP (F := F) c p.1 p.2 f)).symm).trans
    (Ring.pointsTo_blocks_join_exists (ℓ := (c : Thread nD τ).loc cc0_scratch1) (fun p : Fin 3 × Fin 2 => (outS p.1 p.2).view.set)
      (slots_disj _ fun p y => mem_outS p.1 p.2 y) (slots_cover _ fun p y => mem_outS p.1 p.2 y) f₀)

/-- The table's two buffers are held whole. -/
theorem tP_eq (f : Buf (Elt F) (tM.view.loc (c : Thread nD τ))) : (tP c f : sProp 𝕄) = ((c : Thread nD τ).loc main_arg1 ↦{fullShare} f) :=
  congrArg (fun S => ((c : Thread nD τ).loc main_arg1 ↦[S]{fullShare} f : sProp 𝕄)) (View.set_whole main_arg1)
theorem tbP_eq (f : Buf (Elt F) (tbM.view.loc (c : Thread nD τ))) : (tbP c f : sProp 𝕄) = ((c : Thread nD τ).loc cc0_scratch2 ↦{fullShare} f) :=
  congrArg (fun S => ((c : Thread nD τ).loc cc0_scratch2 ↦[S]{fullShare} f : sProp 𝕄)) (View.set_whole cc0_scratch2)

end Split

end Cert.Proof.Add

end
-- ==== Proof.Inv.lean ====
/-
  What the kernel holds before each grid point, and what a launch gives it and takes back.
-/
module

public import proofs.«01_k».proof.Proof.Split
public import proofs.«01_k».proof.Proof.Gen.KernelIdeal.Frame
public import Idealize.ShloMosaic.Lib.Pipeline.FrameSuffixV

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

section Inv
variable (c : Dev nD) (X : Buf (Elt F) (xM.view.loc (c : Thread nD τ))) (T : Buf (Elt F) (tM.view.loc (c : Thread nD τ)))
  (g : Buf (Elt F) (oM.view.loc (c : Thread nD τ)))

/-! ## A chunk's stages -/

/-- Chunk `b`'s two halves on their way into slot `s`. -/
abbrev loadsP (s : Fin 3) (b : Fin 4) : sProp 𝕄 := iprop(ldF c X s b 0 ∗ ldF c X s b 1)
/-- Slot `s` of the ring of sums free, with its semaphores. -/
abbrev roomP (s : Fin 3) : sProp 𝕄 := iprop((∃ f, outP c s 0 f) ∗ (∃ f, outP c s 1 f) ∗ stP c s 0 ∗ stP c s 1)
/-- Chunk `b` of the result, as the launch found it. -/
abbrev todoP (b : Fin 4) : sProp 𝕄 := iprop(oP c g b 0 ∗ oP c g b 1)
/-- Chunk `b` of the result at its values. -/
abbrev doneP (b : Fin 4) : sProp 𝕄 := iprop(oP c (sumC X T) b 0 ∗ oP c (sumC X T) b 1)
/-- Chunk `b`'s sums on their way out of slot `s`. -/
abbrev sentP (s : Fin 3) (b : Fin 4) : sProp 𝕄 := iprop((∃ f, stF c X T s b 0 f) ∗ (∃ f, stF c X T s b 1 f))
/-- Slot `s` of the ring of rows free, with its semaphores, and chunk `b` of the sequence back home. -/
abbrev backP (s : Fin 3) (b : Fin 4) : sProp 𝕄 :=
  iprop((∃ f, inP c s 0 f) ∗ (∃ f, inP c s 1 f) ∗ xP c X b 0 ∗ xP c X b 1 ∗ ldP c s 0 ∗ ldP c s 1)

/-! ## Before each point -/

/-- Before a chunk's turn: its rows are on their way, its slot of sums is free. -/
abbrev waitP (s : Fin 3) (b : Fin 4) : sProp 𝕄 := iprop(loadsP c X s b ∗ roomP c s ∗ todoP c g b)
/-- After it: its rows are back, its sums are on their way. -/
abbrev pastP (s : Fin 3) (b : Fin 4) : sProp 𝕄 := iprop(backP c X s b ∗ sentP c X T s b)
/-- What every point after the first finds: the table, the scaled table, chunk 0 gone and chunk 3 under way into its slot. -/
abbrev baseP : sProp 𝕄 :=
  iprop(tP c T ∗ tsP c ∗ tbP c (scaledC T) ∗ xP c X 0 0 ∗ xP c X 0 1 ∗ sentP c X T 0 0 ∗ loadsP c X 0 3 ∗ todoP c g 3)

/-- Before point 1; -/
def inv1 : sProp 𝕄 := iprop(baseP c X T g ∗ waitP c X g 1 1 ∗ waitP c X g 2 2)
/-- before point 2; -/
def inv2 : sProp 𝕄 := iprop(baseP c X T g ∗ pastP c X T 1 1 ∗ waitP c X g 2 2)
/-- before point 3. -/
def inv3 : sProp 𝕄 := iprop(baseP c X T g ∗ pastP c X T 1 1 ∗ pastP c X T 2 2)

end Inv

/-! ## The launch's side -/

/-- The kernel's own semaphores. -/
abbrev osem0 : Fin 13 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(ldP c 0 0 ∗ ldP c 0 1 ∗ ldP c 1 0 ∗ ldP c 1 1 ∗ ldP c 2 0 ∗ ldP c 2 1
        ∗ stP c 0 0 ∗ stP c 0 1 ∗ stP c 1 0 ∗ stP c 1 1 ∗ stP c 2 0 ∗ stP c 2 1 ∗ tsP c) := by
  rw [Pipeline.ownSems0_eq_of_list c osem0 [0, 1, 2, 3, 4, 5, 6, 7, 8, 9, 10, 11, 12] (by decide) (by decide)]; rfl

/-- The buffers the kernel only reads. -/
def H0 : Finset (Ref sig .tc) := {main_v0, main_arg1}
/-- The buffer it writes. -/
def R0 : Finset (Ref sig .tc) := {main_v1}
theorem H0_sub : H0 ⊆ Pipeline.restRefs sig cfg0.spec := by decide
theorem R0_sub : R0 ⊆ Pipeline.restRefs sig cfg0.spec \ H0 := by decide

theorem ΦDRV_eq (V G : (c : Dev nD) → (b : Ref sig .tc) → Buf (Elt F) ((c.tc : Thread nD τ).loc b)) (c : Dev nD) :
    (Pipeline.ΦDRV osem0 cfg0.spec H0 R0 V G c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f))
        ∗ (ldP c 0 0 ∗ ldP c 0 1 ∗ ldP c 1 0 ∗ ldP c 1 1 ∗ ldP c 2 0 ∗ ldP c 2 1
          ∗ stP c 0 0 ∗ stP c 0 1 ∗ stP c 1 0 ∗ stP c 1 1 ∗ stP c 2 0 ∗ stP c 2 1 ∗ tsP c)
        ∗ ((((c : Thread nD τ).loc main_v0) ↦{fullShare} V c main_v0) ∗ (((c : Thread nD τ).loc main_arg1) ↦{fullShare} V c main_arg1))
        ∗ (((c : Thread nD τ).loc main_v1) ↦{fullShare} G c main_v1)) := by
  unfold Pipeline.ΦDRV
  rw [scopedRest0_eq, ownSems00_eq, BI.bigSep_eq_bigSepL_of_eq (S := H0) [main_v0, main_arg1] (by decide) (by decide),
    BI.bigSep_eq_bigSepL_of_eq (S := R0) [main_v1] (by decide) (by decide)]
  rfl

end Cert.Proof.Add

end
-- ==== Proof.Values.lean ====
module

public import proofs.«01_k».proof.Proof.Pieces

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

/-! ## Reading through the pieces -/

/-- Contents that read the same through a view agree on its elements. -/
theorem eq_on_set {sg : RefSig} {κ : Kind} {sp : Space} {S : Shape} {e : EltTy} (v : View sg κ sp S e) {Val : EltTy → Type}
    {f g : v.ty.Contents Val} (h : v.read Val f = v.read Val g) : ∀ i ∈ v.set, f i = g i := by
  intro i hi
  obtain ⟨x, rfl⟩ := View.exists_emb_of_mem_set v hi
  have hx := congrFun h x
  rw [View.read_apply, View.read_apply] at hx
  exact (_root_.cast_inj _).mp hx

/-- Element `x` of half `h` of chunk `b` is element `(2048 b + 1024 h + x₀, x₁)` of the array. -/
def rowIx (b : Fin 4) (h : Fin 2) (x : S1024x1024.Idx) : S8192x1024.Idx :=
  ix2 ⟨2048 * b.val + 1024 * h.val + (x 0).val, by have := b.isLt; have := h.isLt; have : (x 0).val < 1024 := (x 0).isLt; omega⟩ (x 1)

/-- Element `x` of half `h` of slot `s` is element `(s, 1024 h + x₀, x₁)` of the ring. -/
def slotIx (s : Fin 3) (h : Fin 2) (x : S1024x1024.Idx) : S3x2048x1024.Idx :=
  ix3 s ⟨1024 * h.val + (x 0).val, by have := h.isLt; have : (x 0).val < 1024 := (x 0).isLt; omega⟩ (x 1)

theorem emb_rows (b : Fin 4) (h : Fin 2) (hh) (x : S1024x1024.Idx) :
    (Rect.unit (s := S8192x1024) (rowOff b h) S1024x1024.size hh).emb x = rowIx b h x := by
  funext a; apply Fin.ext; fin_cases a
  · show (2048 * b.val + 1024 * h.val) + 1 * (x 0).val = 2048 * b.val + 1024 * h.val + (x 0).val; omega
  · show 0 + 1 * (x 1).val = (x 1).val; omega

/-- Element `(0, x₀, x₁)` of a block of one slot's half. -/
def addUnit (x : S1024x1024.Idx) : S1x1024x1024.Idx := Fin.cons ⟨0, Nat.one_pos⟩ x

theorem emb_slot (s : Fin 3) (h : Fin 2) (hh) (x : S1024x1024.Idx) :
    (Rect.unit (s := S3x2048x1024) (slotOff s h) S1x1024x1024.size hh).emb (addUnit x) = slotIx s h x := by
  funext a; apply Fin.ext; fin_cases a
  · show s.val + 1 * 0 = s.val; omega
  · show 1024 * h.val + 1 * (x 0).val = 1024 * h.val + (x 0).val; omega
  · show 0 + 1 * (x 1).val = (x 1).val; omega

/-- A half-slot's elements, numbered by two coordinates, are its block's elements with a leading zero. -/
theorem reshape_addUnit (hn : S1024x1024.numel = S1x1024x1024.numel) (x : S1024x1024.Idx) : Shape.reshapeEquiv hn x = addUnit x :=
  shapeCast_dropUnit_apply (α := S1x1024x1024.Idx) ![1024, 1024] (fun i => i) shapeCasts_S1x1024x1024_S1024x1024 x

/-- A load or a store at a half-slot's offsets stays within the half-slot. -/
theorem in_sub {off : Fin 3 → Nat} {s : Fin 3} {h : Fin 2} (e : off = slotOff s h) (hh) :
    (inM.access (Rect.unit (s := S3x2048x1024) off S1x1024x1024.size hh)).set ⊆ (inS s h).view.set := by
  subst e; exact (View.set_reshape (v := inM.access (Rect.unit (s := S3x2048x1024) (slotOff s h) S1x1024x1024.size hh)) squeezes_S1x1024x1024_S1024x1024.numel_eq).ge
theorem out_sub {off : Fin 3 → Nat} {s : Fin 3} {h : Fin 2} (e : off = slotOff s h) (hh) :
    (outM.access (Rect.unit (s := S3x2048x1024) off S1x1024x1024.size hh)).set ⊆ (outS s h).view.set := by
  subst e; exact (View.set_reshape (v := outM.access (Rect.unit (s := S3x2048x1024) (slotOff s h) S1x1024x1024.size hh)) squeezes_S1x1024x1024_S1024x1024.numel_eq).ge

theorem read_xB (X : S8192x1024.Idx → Elt F .f32) (b : Fin 4) (h : Fin 2) (x : S1024x1024.Idx) :
    (xB b h).view.read (Elt F) X x = X (rowIx b h x) := by
  rw [← emb_rows b h (rowOff_inb b h) x]; rfl
theorem read_oB (X : S8192x1024.Idx → Elt F .f32) (b : Fin 4) (h : Fin 2) (x : S1024x1024.Idx) :
    (oB b h).view.read (Elt F) X x = X (rowIx b h x) := by
  rw [← emb_rows b h (rowOff_inb b h) x]; rfl
theorem read_inS (f : S3x2048x1024.Idx → Elt F .f32) (s : Fin 3) (h : Fin 2) (x : S1024x1024.Idx) :
    (inS s h).view.read (Elt F) f x = f (slotIx s h x) := by
  rw [← emb_slot s h (slotOff_inb s h) x, ← reshape_addUnit squeezes_S1x1024x1024_S1024x1024.numel_eq x]; rfl

/-- A half-slot's contents after a copy of a half-chunk into it, whatever was written before: the chunk's rows. -/
theorem landed_on (X : S8192x1024.Idx → Elt F .f32) (s : Fin 3) (b : Fin 4) (h : Fin 2) (f : (inS s h).view.ty.Contents (Elt F)) (L) :
    ∀ i ∈ (inS s h).view.set,
      (inS s h).view.writes (Elt F) f (⟨Rect.whole S1024x1024, ReadAs.same.apply ((xB b h).view.read (Elt F) X)⟩ :: L) i = rowsC X b i := by
  refine eq_on_set (inS s h).view (Val := Elt F) ?_
  funext x
  refine (congrArg _ (Rect.emb_whole_apply S1024x1024 x).symm).trans ((View.read_writes_cons_emb _ f (Rect.whole S1024x1024) _ L x).trans ?_)
  show (xB b h).view.read (Elt F) X x = _
  rw [read_xB, read_inS]
  show X _ = X _
  refine congrArg X ?_
  unfold rowIx slotIx
  congr 1
  apply Fin.ext
  show 2048 * b.val + 1024 * h.val + (x 0).val = 2048 * b.val + (1024 * h.val + (x 0).val)
  omega

/-- A copy into a half-slot, as the run leaves it, hands back the half-slot with the chunk's rows. -/
theorem ldF_of (c : Dev nD) (X : Buf (Elt F) (xM.view.loc (c : Thread nD τ))) (s : Fin 3) (b : Fin 4) (h : Fin 2)
    (f : Buf (Elt F) ((inS s h).view.loc (c : Thread nD τ))) (L) :
    Transfers.Flight countersEmb (c : Thread nD τ) (SemLoc.dma (ldC s h).sem) () 131072
      iprop(((inS s h).view.loc (c : Thread nD τ) ↦[(inS s h).view.set]{fullShare}
          (inS s h).view.writes (Elt F) f (⟨Rect.whole S1024x1024, ReadAs.same.apply ((xB b h).view.read (Elt F) X)⟩ :: L)) ∗ xP c X b h)
      ⊢ (ldF c X s b h : sProp 𝕄) := by
  refine Transfers.Flight_mono countersEmb (c : Thread nD τ) ?_
  rw [pointsTo_congr (landed_on X s b h f L)]

/-- A load from a half-slot after such a copy reads the chunk's rows. -/
theorem readAt_landed (X : S8192x1024.Idx → Elt F .f32) {off : Fin 3 → Nat} {s : Fin 3} {h : Fin 2} (e : off = slotOff s h) (hh) (b : Fin 4)
    (f : (inS s h).view.ty.Contents (Elt F)) (L) :
    inM.view.readAt (Elt F) (Rect.unit (s := S3x2048x1024) off S1x1024x1024.size hh).toLoadRect
        ((inS s h).view.writes (Elt F) f (⟨Rect.whole S1024x1024, ReadAs.same.apply ((xB b h).view.read (Elt F) X)⟩ :: L))
      = inM.view.readAt (Elt F) (Rect.unit (s := S3x2048x1024) off S1x1024x1024.size hh).toLoadRect (rowsC X b) := by
  have hs := in_sub e hh
  refine (View.readAt_rect _ _).trans (Eq.trans ?_ (View.readAt_rect _ _).symm)
  exact View.read_congr fun i hi => landed_on X s b h f L i (hs hi)

/-- The table's buffer after the table's copy and the store of its scaled rows. -/
theorem scaled_writes (T : S2048x1024.Idx → Elt F .f32) (f : tbM.view.ty.Contents (Elt F)) (inb inb') :
    tbM.view.writes (Elt F) f
      [⟨Rect.unit (s := S2048x1024) ![0, 0] S2048x1024.size inb,
          k0_pay2 (F := F) (tbM.view.readCov [⟨Rect.whole S2048x1024, ReadAs.same.apply (tM.view.read (Elt F) T)⟩]
            (Rect.unit (s := S2048x1024) ![0, 0] S2048x1024.size inb').toLoadRect)⟩,
        ⟨Rect.whole S2048x1024, ReadAs.same.apply (tM.view.read (Elt F) T)⟩] = scaledC T := by
  have h0 : (![0, 0] : Fin 2 → Nat) = fun _ => 0 := by decide
  refine (Memref.write_access_unit_zero_univ (Elt F) cc0_scratch2 h0 inb _ _).trans (congrArg (k0_pay2 (F := F)) ?_)
  refine (Memref.readAt_unit_zero (Elt F) cc0_scratch2 h0 inb' _).trans ?_
  exact Memref.write_access_whole_univ (Elt F) cc0_scratch2 _ T

/-- A half-slot read after a store that covers it is what was stored. -/
theorem read_outS_write {off : Fin 3 → Nat} {s : Fin 3} {h : Fin 2} (e : off = slotOff s h) (hh)
    (f : S3x2048x1024.Idx → Elt F .f32) (w : S1x1024x1024.Idx → Elt F .f32) (x : S1024x1024.Idx) :
    (outS s h).view.read (Elt F) ((outM.access (Rect.unit (s := S3x2048x1024) off S1x1024x1024.size hh)).write (Elt F) f w Finset.univ) x
      = w (addUnit x) := by
  subst e
  rw [← reshape_addUnit squeezes_S1x1024x1024_S1024x1024.numel_eq x]
  exact congrFun (View.read_write_univ (v := outM.access (Rect.unit (s := S3x2048x1024) (slotOff s h) S1x1024x1024.size hh)) f w) _

/-- What one half-slot's sum is, element by element: the rows' element plus the table's. -/
theorem pay_apply (a : Vec F S1x1024x1024 .f32) (t : Vec F S1024x1024 .f32) (x : S1024x1024.Idx) :
    k0_pay3 a t (addUnit x) = FloatOps.addf (a (addUnit x)) (t x) := by
  unfold k0_pay3
  refine (shapeCast_addUnit_apply ![1024, 1024] _ _ (addUnit x)).trans ?_
  show FloatOps.addf (shapeCast S1024x1024 a _ x) (t x) = _
  exact congrArg (fun z => FloatOps.addf z (t x)) (shapeCast_dropUnit_apply ![1024, 1024] a _ x)

/-- The stored sum of half `h` at chunk `b`: the result's elements there. -/
theorem pay_eq (X : S8192x1024.Idx → Elt F .f32) (T : S2048x1024.Idx → Elt F .f32) {off : Fin 3 → Nat} {toff : Fin 2 → Nat} {s : Fin 3} {h : Fin 2}
    (e : off = slotOff s h) (et : toff = ![1024 * h.val, 0]) (b : Fin 4) (hh ht) (x : S1024x1024.Idx) :
    k0_pay3 (inM.view.readAt (Elt F) (Rect.unit (s := S3x2048x1024) off S1x1024x1024.size hh).toLoadRect (rowsC X b))
        (tbM.view.readAt (Elt F) (Rect.unit (s := S2048x1024) toff S1024x1024.size ht).toLoadRect (scaledC T)) (addUnit x)
      = sumC X T (rowIx b h x) := by
  subst e et
  rw [pay_apply]
  have e1 : inM.view.readAt (Elt F) (Rect.unit (s := S3x2048x1024) (slotOff s h) S1x1024x1024.size hh).toLoadRect (rowsC X b) (addUnit x)
      = X (rowIx b h x) := by
    refine (congrArg (rowsC X b) (emb_slot s h hh x)).trans ?_
    refine congrArg X ?_
    unfold rowIx slotIx
    congr 1
    apply Fin.ext
    show 2048 * b.val + (1024 * h.val + (x 0).val) = 2048 * b.val + 1024 * h.val + (x 0).val
    omega
  have e2 : (Rect.unit (s := S2048x1024) ![1024 * h.val, 0] S1024x1024.size ht).emb x
      = (ix2 ⟨(rowIx b h x 0).val % 2048, Nat.mod_lt _ (by decide)⟩ (rowIx b h x 1) : S2048x1024.Idx) := by
    funext a; apply Fin.ext; fin_cases a
    · show 1024 * h.val + 1 * (x 0).val = (2048 * b.val + 1024 * h.val + (x 0).val) % 2048
      have := h.isLt; have : (x 0).val < 1024 := (x 0).isLt; omega
    · show 0 + 1 * (x 1).val = (x 1).val; omega
  rw [e1]
  exact congrArg (FloatOps.addf (X (rowIx b h x))) (congrArg (scaledC T) e2)

/-- The same where the rows have just been copied in and the table just scaled. -/
theorem pay_eq_first (X : S8192x1024.Idx → Elt F .f32) (T : S2048x1024.Idx → Elt F .f32) {off : Fin 3 → Nat} {toff : Fin 2 → Nat} {s : Fin 3} {h : Fin 2}
    (e : off = slotOff s h) (et : toff = ![1024 * h.val, 0]) (b : Fin 4) (hh ht inb inb') (f : (inS s h).view.ty.Contents (Elt F)) (L) (x : S1024x1024.Idx) :
    k0_pay3 (inM.view.readAt (Elt F) (Rect.unit (s := S3x2048x1024) off S1x1024x1024.size hh).toLoadRect
          ((inS s h).view.writes (Elt F) f (⟨Rect.whole S1024x1024, ReadAs.same.apply ((xB b h).view.read (Elt F) X)⟩ :: L)))
        (tbM.view.readCov [⟨Rect.unit (s := S2048x1024) ![0, 0] S2048x1024.size inb,
            k0_pay2 (F := F) (tbM.view.readCov [⟨Rect.whole S2048x1024, ReadAs.same.apply (tM.view.read (Elt F) T)⟩]
              (Rect.unit (s := S2048x1024) ![0, 0] S2048x1024.size inb').toLoadRect)⟩,
          ⟨Rect.whole S2048x1024, ReadAs.same.apply (tM.view.read (Elt F) T)⟩] (Rect.unit (s := S2048x1024) toff S1024x1024.size ht).toLoadRect) (addUnit x)
      = sumC X T (rowIx b h x) := by
  rw [readAt_landed X e hh b f L]
  refine Eq.trans ?_ (pay_eq X T e et b hh ht x)
  exact congrArg (fun z => k0_pay3 _ (tbM.view.readAt (Elt F) (Rect.unit (s := S2048x1024) toff S1024x1024.size ht).toLoadRect z) (addUnit x))
    (scaled_writes T tbM.view.junk inb inb')

/-- A half-chunk of the result after a copy of a half-slot of sums: the result's values. -/
theorem oP_of (c : Dev nD) (X : Buf (Elt F) (xM.view.loc (c : Thread nD τ))) (T : Buf (Elt F) (tM.view.loc (c : Thread nD τ)))
    {off : Fin 3 → Nat} {s : Fin 3} {h : Fin 2} (e : off = slotOff s h) (b : Fin 4) (hh)
    (g : Buf (Elt F) (oM.view.loc (c : Thread nD τ))) (f : Buf (Elt F) (outM.view.loc (c : Thread nD τ))) (w : S1x1024x1024.Idx → Elt F .f32)
    (hw : ∀ x, w (addUnit x) = sumC X T (rowIx b h x)) :
    ((oB b h).view.loc (c : Thread nD τ) ↦[(oB b h).view.set]{fullShare}
        (oB b h).view.writes (Elt F) g [⟨Rect.whole S1024x1024, ReadAs.same.apply ((outS s h).view.read (Elt F)
          ((outM.access (Rect.unit (s := S3x2048x1024) off S1x1024x1024.size hh)).write (Elt F) f w Finset.univ))⟩] : sProp 𝕄)
      = oP c (sumC X T) b h := by
  refine pointsTo_congr (eq_on_set (oB b h).view (Val := Elt F) ?_)
  refine (View.read_writes_whole _ _ _).trans ?_
  funext x
  rw [read_oB, ← hw x]
  exact read_outS_write e hh f w x

/-- A copy out of a half-slot, as the run leaves it, hands back the result's half-chunk. -/
theorem stF_of (c : Dev nD) (X : Buf (Elt F) (xM.view.loc (c : Thread nD τ))) (T : Buf (Elt F) (tM.view.loc (c : Thread nD τ)))
    {off : Fin 3 → Nat} {s : Fin 3} {h : Fin 2} (e : off = slotOff s h) (b : Fin 4) (hh)
    (g : Buf (Elt F) (oM.view.loc (c : Thread nD τ))) (f f' : Buf (Elt F) (outM.view.loc (c : Thread nD τ))) (w : S1x1024x1024.Idx → Elt F .f32)
    (hw : ∀ x, w (addUnit x) = sumC X T (rowIx b h x)) :
    Transfers.Flight countersEmb (c : Thread nD τ) (SemLoc.dma (stC s h).sem) () 131072
      iprop(((oB b h).view.loc (c : Thread nD τ) ↦[(oB b h).view.set]{fullShare}
            (oB b h).view.writes (Elt F) g [⟨Rect.whole S1024x1024, ReadAs.same.apply ((outS s h).view.read (Elt F)
              ((outM.access (Rect.unit (s := S3x2048x1024) off S1x1024x1024.size hh)).write (Elt F) f w Finset.univ))⟩])
        ∗ (outS s h).view.loc (c : Thread nD τ) ↦[(outS s h).view.set]{fullShare} f') ⊢ (stF c X T s b h f' : sProp 𝕄) := by
  refine Transfers.Flight_mono countersEmb (c : Thread nD τ) ?_
  rw [oP_of c X T e b hh g f w hw]

end Cert.Proof.Add

end
-- ==== Proof.Mid.lean ====
module

public import proofs.«01_k».proof.Proof.Values

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

section Mid
variable (c : Dev nD) (X : Buf (Elt F) (xM.view.loc (c : Thread nD τ))) (T : Buf (Elt F) (tM.view.loc (c : Thread nD τ)))

/-- One grid point's program, over the launch's own buffers and semaphores. -/
abbrev bodyG (i : grid0.Coords) : Prog (TpuEff nD τ sig (Elt F) Λ₀ .tc) PUnit :=
  cc0__body (F := F) i xM (Memref.isWhole_whole _) tM (Memref.isWhole_whole _) oM (Memref.isWhole_whole _) inM (Memref.isWhole_whole _) outM (Memref.isWhole_whole _) tbM (Memref.isWhole_whole _) cc0_scratch3 cc0_scratch4 cc0_scratch5

/-- **A middle point.** Chunk `i`'s rows are waited for, the table's rows are added, and the sums are sent off. -/
theorem mid_run (i : grid0.Coords) (h1 : 1 ≤ (i 0).val) (h2 : (i 0).val ≤ 2)
    (hc1 : ¬ k0_cond1 i = 1#1) (hc2 : ¬ k0_cond2 i = 1#1) (hc3 : ¬ k0_cond3 i = 1#1)
    (hc4 : ¬ Scalar.cmpi .ne (Scalar.extui (Scalar.cmpi .eq (BitVec.ofNat 32 (i 0).val) 3#32) : BitVec 32) 0#32 = 1#1)
    (fo fo' : Buf (Elt F) (outM.view.loc (c : Thread nD τ))) (g : Buf (Elt F) (oM.view.loc (c : Thread nD τ))) (W)
    (K : PUnit → sProp 𝕄) :
    iprop(ldF c X (sl i) (bk i) 0 ∗ ldF c X (sl i) (bk i) 1 ∗ tbP c (scaledC T) ∗ outP c (sl i) 0 fo ∗ outP c (sl i) 1 fo' ∗ stP c (sl i) 0 ∗ stP c (sl i) 1
      ∗ oP c g (bk i) 0 ∗ oP c g (bk i) 1 ∗ owes (c : Thread nD τ) 0 W
      ∗ ((tbP c (scaledC T) ∗ (∃ f, inP c (sl i) 0 f) ∗ (∃ f, inP c (sl i) 1 f) ∗ xP c X (bk i) 0 ∗ xP c X (bk i) 1 ∗ ldP c (sl i) 0 ∗ ldP c (sl i) 1
        ∗ (∃ f, stF c X T (sl i) (bk i) 0 f) ∗ (∃ f, stF c X T (sl i) (bk i) 1 f) ∗ ∃ W', owes (c : Thread nD τ) 0 W') -∗ K ⟨⟩))
    ⊢ wp frame (wpE (defs₀ (F := F)) Variants.none (c : Thread nD τ) none) Set.univ (bodyG i) K := by
  iintro ⟨HL0, HL1, HT, HS0, HS1, HC0, HC1, HO0, HO1, HW, HK⟩
  dsimp only [bodyG]
  rw [cc0__body_eq_skeleton]
  unfold cc0__body_skel
  rw [k0_part3_eq_skeleton]
  unfold k0_part3_skel
  sl_exec
  sl_step
  iapply HK
  unfold mid_run.sl.dma4 mid_run.sl.HS0_w1 mid_run.sl.dma8 mid_run.sl.HS1_w2
  isplitl [HT]; · iexact HT
  isplitl [HL0_dst]; · iexists _; iexact HL0_dst
  isplitl [HL1_dst]; · iexists _; iexact HL1_dst
  isplitl [HL0_src]; · iexact HL0_src
  isplitl [HL1_src]; · iexact HL1_src
  isplitl [HL0]; · iexact HL0
  isplitl [HL1]; · iexact HL1
  isplitl [HC0]
  · iexists _; iapply (stF_of c X T (off13_eq i) (bk i) _ g fo _ _ (fun x => pay_eq X T (off13_eq i) rfl (bk i) _ _ x)); iexact HC0
  isplitl [HC1]
  · iexists _; iapply (stF_of c X T (off16_eq i) (bk i) _ g fo' _ _ (fun x => pay_eq X T (off16_eq i) rfl (bk i) _ _ x)); iexact HC1
  iexists _; iexact HW

end Mid

end Cert.Proof.Add

end
-- ==== Proof.First.lean ====
module

public import proofs.«01_k».proof.Proof.Mid

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

section First
variable (c : Dev nD) (X : Buf (Elt F) (xM.view.loc (c : Thread nD τ))) (T : Buf (Elt F) (tM.view.loc (c : Thread nD τ)))

attribute [local sl_canon] sl_zero bk_zero

/-- **The first point.** The table is copied in and scaled, chunks 0, 1 and 2 are brought in, chunk 0's sums are sent off, and chunk 3 is
    brought into the slot chunk 0 has left: what is left is the scaled table and the copies of the four chunks in flight. -/
theorem first_run (i : grid0.Coords) (hi : (i 0).val = 0)
    (hc1 : k0_cond1 i = 1#1) (hc2 : ¬ k0_cond2 i = 1#1) (hc3 : k0_cond3 i = 1#1)
    (hc4 : ¬ Scalar.cmpi .ne (Scalar.extui (Scalar.cmpi .eq (BitVec.ofNat 32 (i 0).val) 3#32) : BitVec 32) 0#32 = 1#1)
    (fi : Buf (Elt F) (inM.view.loc (c : Thread nD τ))) (ft : Buf (Elt F) (tbM.view.loc (c : Thread nD τ)))
    (fo : Buf (Elt F) (outM.view.loc (c : Thread nD τ))) (g : Buf (Elt F) (oM.view.loc (c : Thread nD τ))) (W)
    (K : PUnit → sProp 𝕄) :
    iprop(tP c T ∗ tbP c ft ∗ tsP c
      ∗ inP c 0 0 fi ∗ inP c 0 1 fi ∗ inP c 1 0 fi ∗ inP c 1 1 fi ∗ inP c 2 0 fi ∗ inP c 2 1 fi
      ∗ ldP c 0 0 ∗ ldP c 0 1 ∗ ldP c 1 0 ∗ ldP c 1 1 ∗ ldP c 2 0 ∗ ldP c 2 1
      ∗ xP c X 0 0 ∗ xP c X 0 1 ∗ xP c X 1 0 ∗ xP c X 1 1 ∗ xP c X 2 0 ∗ xP c X 2 1 ∗ xP c X 3 0 ∗ xP c X 3 1
      ∗ outP c 0 0 fo ∗ outP c 0 1 fo ∗ stP c 0 0 ∗ stP c 0 1 ∗ oP c g 0 0 ∗ oP c g 0 1 ∗ owes (c : Thread nD τ) 0 W
      ∗ ((tP c T ∗ tbP c (scaledC T) ∗ tsP c ∗ xP c X 0 0 ∗ xP c X 0 1 ∗ ldF c X 1 1 0 ∗ ldF c X 1 1 1 ∗ ldF c X 2 2 0 ∗ ldF c X 2 2 1
        ∗ ldF c X 0 3 0 ∗ ldF c X 0 3 1 ∗ (∃ f, stF c X T 0 0 0 f) ∗ (∃ f, stF c X T 0 0 1 f) ∗ ∃ W', owes (c : Thread nD τ) 0 W') -∗ K ⟨⟩))
    ⊢ wp frame (wpE (defs₀ (F := F)) Variants.none (c : Thread nD τ) none) Set.univ (bodyG i) K := by
  iintro ⟨HT, HB, HTS, HI00, HI01, HI10, HI11, HI20, HI21, HL00, HL01, HL10, HL11, HL20, HL21, HX00, HX01, HX10, HX11, HX20, HX21, HX30, HX31,
    HS0, HS1, HC0, HC1, HO0, HO1, HW, HK⟩
  dsimp only [bodyG]
  rw [cc0__body_eq_skeleton]
  unfold cc0__body_skel
  rw [k0_part3_eq_skeleton]
  unfold k0_part3_skel
  rw [k0_part1_eq_skeleton]
  unfold k0_part1_skel
  have e0 : k0_off13 i = slotOff 0 0 := (off13_eq i).trans (by rw [sl_zero i hi])
  have e1 : k0_off16 i = slotOff 0 1 := (off16_eq i).trans (by rw [sl_zero i hi])
  have hi0 := in_sub e0 (k0_off13_inb i)
  have hi1 := in_sub e1 (k0_off16_inb i)
  have ho0 := out_sub e0 (k0_off13_inb i)
  have ho1 := out_sub e1 (k0_off16_inb i)
  sl_exec
  sl_step
  iapply HK
  isplitl [HT]; · iexact HT
  isplitl [HB]
  · iapply (Entails.of_eq (congrArg (fun z => tbP (F := F) c z) (scaled_writes T ft _ _))); iexact HB
  isplitl [HTS]; · iexact HTS
  isplitl [HX00]; · iexact HX00
  isplitl [HX01]; · iexact HX01
  isplitl [HL10]; · iapply (ldF_of c X 1 1 0 fi []); iexact HL10
  isplitl [HL11]; · iapply (ldF_of c X 1 1 1 fi []); iexact HL11
  isplitl [HL20]; · iapply (ldF_of c X 2 2 0 fi []); iexact HL20
  isplitl [HL21]; · iapply (ldF_of c X 2 2 1 fi []); iexact HL21
  isplitl [HL00]; · iapply (ldF_of c X 0 3 0 _ _); iexact HL00
  isplitl [HL01]; · iapply (ldF_of c X 0 3 1 _ _); iexact HL01
  isplitl [HC0]
  · iexists _; iapply (stF_of c X T e0 0 _ g fo _ _ (fun x => pay_eq_first X T e0 rfl 0 _ _ _ _ _ [] x)); iexact HC0
  isplitl [HC1]
  · iexists _; iapply (stF_of c X T e1 0 _ g fo _ _ (fun x => pay_eq_first X T e1 rfl 0 _ _ _ _ _ [] x)); iexact HC1
  iexists _; iexact HW

end First

end Cert.Proof.Add

end
-- ==== Proof.Last.lean ====
module

public import proofs.«01_k».proof.Proof.Mid

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

section Last
variable (c : Dev nD) (X : Buf (Elt F) (xM.view.loc (c : Thread nD τ))) (T : Buf (Elt F) (tM.view.loc (c : Thread nD τ)))

attribute [local sl_canon] sl_three bk_three

/-- **The last point.** The copies of chunk 0's sums are waited for, chunk 3 is added and sent off, and all that is still in flight is
    waited for: everything is home, the result at its values. -/
theorem last_run (i : grid0.Coords) (hi : (i 0).val = 3)
    (hc1 : ¬ k0_cond1 i = 1#1) (hc2 : k0_cond2 i = 1#1) (hc3 : ¬ k0_cond3 i = 1#1)
    (hc4 : Scalar.cmpi .ne (Scalar.extui (Scalar.cmpi .eq (BitVec.ofNat 32 (i 0).val) 3#32) : BitVec 32) 0#32 = 1#1)
    (f00 f01 f10 f11 f20 f21 : Buf (Elt F) (outM.view.loc (c : Thread nD τ))) (g : Buf (Elt F) (oM.view.loc (c : Thread nD τ))) (W)
    (K : PUnit → sProp 𝕄) :
    iprop(tbP c (scaledC T) ∗ ldF c X 0 3 0 ∗ ldF c X 0 3 1 ∗ stF c X T 0 0 0 f00 ∗ stF c X T 0 0 1 f01 ∗ stF c X T 1 1 0 f10 ∗ stF c X T 1 1 1 f11
      ∗ stF c X T 2 2 0 f20 ∗ stF c X T 2 2 1 f21 ∗ oP c g 3 0 ∗ oP c g 3 1 ∗ owes (c : Thread nD τ) 0 W
      ∗ ((tbP c (scaledC T) ∗ (∃ f, inP c 0 0 f) ∗ (∃ f, inP c 0 1 f) ∗ xP c X 3 0 ∗ xP c X 3 1 ∗ ldP c 0 0 ∗ ldP c 0 1
        ∗ (∃ f, outP c 0 0 f) ∗ (∃ f, outP c 0 1 f) ∗ (∃ f, outP c 1 0 f) ∗ (∃ f, outP c 1 1 f) ∗ (∃ f, outP c 2 0 f) ∗ (∃ f, outP c 2 1 f)
        ∗ stP c 0 0 ∗ stP c 0 1 ∗ stP c 1 0 ∗ stP c 1 1 ∗ stP c 2 0 ∗ stP c 2 1
        ∗ oP c (sumC X T) 0 0 ∗ oP c (sumC X T) 0 1 ∗ oP c (sumC X T) 1 0 ∗ oP c (sumC X T) 1 1 ∗ oP c (sumC X T) 2 0 ∗ oP c (sumC X T) 2 1
        ∗ oP c (sumC X T) 3 0 ∗ oP c (sumC X T) 3 1 ∗ ∃ W', owes (c : Thread nD τ) 0 W') -∗ K ⟨⟩))
    ⊢ wp frame (wpE (defs₀ (F := F)) Variants.none (c : Thread nD τ) none) Set.univ (bodyG i) K := by
  iintro ⟨HB, HL0, HL1, HS00, HS01, HS10, HS11, HS20, HS21, HO0, HO1, HW, HK⟩
  dsimp only [bodyG]
  rw [cc0__body_eq_skeleton]
  unfold cc0__body_skel
  rw [k0_part3_eq_skeleton]
  unfold k0_part3_skel
  rw [k0_part2_eq_skeleton]
  unfold k0_part2_skel
  have e0 : k0_off13 i = slotOff 0 0 := (off13_eq i).trans (by rw [sl_three i hi])
  have e1 : k0_off16 i = slotOff 0 1 := (off16_eq i).trans (by rw [sl_three i hi])
  have hi0 := in_sub e0 (k0_off13_inb i)
  have hi1 := in_sub e1 (k0_off16_inb i)
  have ho0 := out_sub e0 (k0_off13_inb i)
  have ho1 := out_sub e1 (k0_off16_inb i)
  sl_exec
  sl_step
  iapply HK
  isplitl [HB]; · iexact HB
  isplitl [HL0_dst]; · iexists _; iexact HL0_dst
  isplitl [HL1_dst]; · iexists _; iexact HL1_dst
  isplitl [HL0_src]; · iexact HL0_src
  isplitl [HL1_src]; · iexact HL1_src
  isplitl [HL0]; · iexact HL0
  isplitl [HL1]; · iexact HL1
  isplitl [HS00_src]; · iexists _; iexact HS00_src
  isplitl [HS01_src]; · iexists _; iexact HS01_src
  isplitl [HS10_src]; · iexists _; iexact HS10_src
  isplitl [HS11_src]; · iexists _; iexact HS11_src
  isplitl [HS20_src]; · iexists _; iexact HS20_src
  isplitl [HS21_src]; · iexists _; iexact HS21_src
  isplitl [HS00]; · iexact HS00
  isplitl [HS01]; · iexact HS01
  isplitl [HS10]; · iexact HS10
  isplitl [HS11]; · iexact HS11
  isplitl [HS20]; · iexact HS20
  isplitl [HS21]; · iexact HS21
  isplitl [HS00_dst]; · iexact HS00_dst
  isplitl [HS01_dst]; · iexact HS01_dst
  isplitl [HS10_dst]; · iexact HS10_dst
  isplitl [HS11_dst]; · iexact HS11_dst
  isplitl [HS20_dst]; · iexact HS20_dst
  isplitl [HS21_dst]; · iexact HS21_dst
  isplitl [HO0]
  · iapply (Entails.of_eq (oP_of c X T e0 3 _ g f00 _ (fun x => pay_eq X T e0 rfl 3 _ _ x))); iexact HO0
  isplitl [HO1]
  · iapply (Entails.of_eq (oP_of c X T e1 3 _ g f01 _ (fun x => pay_eq X T e1 rfl 3 _ _ x))); iexact HO1
  iexists _; iexact HW

end Last

end Cert.Proof.Add

end
-- ==== Proof.Points.lean ====
/-
  The four grid points, each from what is held before it to what is held after it.
-/
module

public import proofs.«01_k».proof.Proof.Inv
public import proofs.«01_k».proof.Proof.First
public import proofs.«01_k».proof.Proof.Last

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

/-! ## Which branches a point takes -/

theorem cond1_iff : ∀ i : grid0.Coords, k0_cond1 i = 1#1 ↔ (i 0).val = 0 := by decide +kernel
theorem cond2_iff : ∀ i : grid0.Coords, k0_cond2 i = 1#1 ↔ (i 0).val = 3 := by decide +kernel
theorem cond3_iff : ∀ i : grid0.Coords, k0_cond3 i = 1#1 ↔ (i 0).val = 0 := by decide +kernel
theorem cond4_iff : ∀ i : grid0.Coords,
    Scalar.cmpi .ne (Scalar.extui (Scalar.cmpi .eq (BitVec.ofNat 32 (i 0).val) 3#32) : BitVec 32) 0#32 = 1#1 ↔ (i 0).val = 3 := by decide +kernel

section Points
variable (c : Dev nD)

/-- The first point, from a launch. -/
theorem point_first (V : (c : Dev nD) → (b : Ref sig .tc) → Buf (Elt F) ((c.tc : Thread nD τ).loc b)) (i : grid0.Coords) (hi : (i 0).val = 0) (W)
    (K : PUnit → sProp 𝕄) :
    iprop(Pipeline.ΦDRV osem0 cfg0.spec H0 R0 V V c ∗ owes (c : Thread nD τ) 0 W
      ∗ ((inv1 c (V c main_v0) (V c main_arg1) (V c main_v1) ∗ ∃ W', owes (c : Thread nD τ) 0 W') -∗ K ⟨⟩))
    ⊢ wp frame (wpE (defs₀ (F := F)) Variants.none (c : Thread nD τ) none) Set.univ (bodyG i) K := by
  rw [ΦDRV_eq, x_split, o_split]
  iintro ⟨⟨⟨⟨%fi, Hin⟩, ⟨%fo, Hout⟩, ⟨%ft, Htb⟩⟩, ⟨L00, L01, L10, L11, L20, L21, S00, S01, S10, S11, S20, S21, TS⟩,
    ⟨⟨X00, X01, X10, X11, X20, X21, X30, X31⟩, HT⟩, ⟨O00, O01, O10, O11, O20, O21, O30, O31⟩⟩, HW, HK⟩
  ihave Hin' := (Entails.of_eq (in_split c fi)) $$ Hin
  ihave Hout' := (Entails.of_eq (out_split c fo)) $$ Hout
  icases Hin' with ⟨I00, I01, I10, I11, I20, I21⟩
  icases Hout' with ⟨U00, U01, U10, U11, U20, U21⟩
  iapply (first_run c (V c main_v0) (V c main_arg1) i hi ((cond1_iff i).mpr hi) (fun h => by have := (cond2_iff i).mp h; omega)
    ((cond3_iff i).mpr hi) (fun h => by have := (cond4_iff i).mp h; omega) fi ft fo (V c main_v1) W K)
  isplitl [HT]
  · iapply (Entails.of_eq (tP_eq c _).symm); iexact HT
  isplitl [Htb]
  · iapply (Entails.of_eq (tbP_eq c _).symm); iexact Htb
  iframe TS I00 I01 I10 I11 I20 I21 L00 L01 L10 L11 L20 L21 X00 X01 X10 X11 X20 X21 X30 X31 U00 U01 S00 S01 O00 O01 HW
  iintro ⟨HT, HB, TS, X00, X01, L10, L11, L20, L21, L00, L01, S00, S01, HW⟩
  iapply HK
  isplitr [HW]
  · unfold inv1
    isplitl [HT TS HB X00 X01 S00 S01 L00 L01 O30 O31]
    · iframe HT TS HB X00 X01 S00 S01 L00 L01 O30 O31
    isplitl [L10 L11 U10 U11 S10 S11 O10 O11]
    · isplitl [L10 L11]; · iframe L10 L11
      isplitr [O10 O11]
      · isplitl [U10]; · iexists _; iexact U10
        isplitl [U11]; · iexists _; iexact U11
        iframe S10 S11
      · iframe O10 O11
    · isplitl [L20 L21]; · iframe L20 L21
      isplitr [O20 O21]
      · isplitl [U20]; · iexists _; iexact U20
        isplitl [U21]; · iexists _; iexact U21
        iframe S20 S21
      · iframe O20 O21
  · iexact HW

variable (X : Buf (Elt F) (xM.view.loc (c : Thread nD τ))) (T : Buf (Elt F) (tM.view.loc (c : Thread nD τ)))
  (g : Buf (Elt F) (oM.view.loc (c : Thread nD τ)))

/-- A middle point's chunk goes from waiting to past. -/
theorem point_mid (i : grid0.Coords) (h1 : 1 ≤ (i 0).val) (h2 : (i 0).val ≤ 2) (s : Fin 3) (hs : sl i = s) (b : Fin 4) (hb : bk i = b) (W)
    (K : PUnit → sProp 𝕄) :
    iprop(waitP c X g s b ∗ tbP c (scaledC T) ∗ owes (c : Thread nD τ) 0 W
      ∗ ((pastP c X T s b ∗ tbP c (scaledC T) ∗ ∃ W', owes (c : Thread nD τ) 0 W') -∗ K ⟨⟩))
    ⊢ wp frame (wpE (defs₀ (F := F)) Variants.none (c : Thread nD τ) none) Set.univ (bodyG i) K := by
  subst hs hb
  iintro ⟨⟨⟨L0, L1⟩, ⟨⟨%fo, U0⟩, ⟨%fo', U1⟩, S0, S1⟩, ⟨O0, O1⟩⟩, HB, HW, HK⟩
  iapply (mid_run c X T i h1 h2 (fun h => by have := (cond1_iff i).mp h; omega) (fun h => by have := (cond2_iff i).mp h; omega)
    (fun h => by have := (cond3_iff i).mp h; omega) (fun h => by have := (cond4_iff i).mp h; omega) fo fo' g W K)
  iframe L0 L1 HB U0 U1 S0 S1 O0 O1 HW
  iintro ⟨HB, I0, I1, X0, X1, L0, L1, S0, S1, HW⟩
  iapply HK
  iframe HB HW I0 I1 X0 X1 L0 L1 S0 S1

/-- Point 1; -/
theorem point_one (i : grid0.Coords) (hi : (i 0).val = 1) (W) (K : PUnit → sProp 𝕄) :
    iprop(inv1 c X T g ∗ owes (c : Thread nD τ) 0 W ∗ ((inv2 c X T g ∗ ∃ W', owes (c : Thread nD τ) 0 W') -∗ K ⟨⟩))
    ⊢ wp frame (wpE (defs₀ (F := F)) Variants.none (c : Thread nD τ) none) Set.univ (bodyG i) K := by
  unfold inv1 inv2
  iintro ⟨⟨⟨HT, TS, HB, X0, X1, S0, L3, O3⟩, HP, HN⟩, HW, HK⟩
  iapply (point_mid c X T g i (by omega) (by omega) 1 (Fin.ext (by simp [sl, hi])) 1 (Fin.ext (by simp [bk, hi])) W K)
  iframe HP HB HW
  iintro ⟨HP, HB, HW⟩
  iapply HK
  iframe HT TS HB X0 X1 S0 L3 O3 HP HN HW

/-- point 2; -/
theorem point_two (i : grid0.Coords) (hi : (i 0).val = 2) (W) (K : PUnit → sProp 𝕄) :
    iprop(inv2 c X T g ∗ owes (c : Thread nD τ) 0 W ∗ ((inv3 c X T g ∗ ∃ W', owes (c : Thread nD τ) 0 W') -∗ K ⟨⟩))
    ⊢ wp frame (wpE (defs₀ (F := F)) Variants.none (c : Thread nD τ) none) Set.univ (bodyG i) K := by
  unfold inv2 inv3
  iintro ⟨⟨⟨HT, TS, HB, X0, X1, S0, L3, O3⟩, HN, HP⟩, HW, HK⟩
  iapply (point_mid c X T g i (by omega) (by omega) 2 (Fin.ext (by simp [sl, hi])) 2 (Fin.ext (by simp [bk, hi])) W K)
  iframe HP HB HW
  iintro ⟨HP, HB, HW⟩
  iapply HK
  iframe HT TS HB X0 X1 S0 L3 O3 HP HN HW

/-- and point 3, which leaves the launch the sequence and the table as they were and the result at its values. -/
theorem point_last (V G : (c : Dev nD) → (b : Ref sig .tc) → Buf (Elt F) ((c.tc : Thread nD τ).loc b))
    (hG : G c main_v1 = sumC (V c main_v0) (V c main_arg1)) (i : grid0.Coords) (hi : (i 0).val = 3) (W) (K : PUnit → sProp 𝕄) :
    iprop(inv3 c (V c main_v0) (V c main_arg1) g ∗ owes (c : Thread nD τ) 0 W
      ∗ ((Pipeline.ΦDRV osem0 cfg0.spec H0 R0 V G c ∗ ∃ W', owes (c : Thread nD τ) 0 W') -∗ K ⟨⟩))
    ⊢ wp frame (wpE (defs₀ (F := F)) Variants.none (c : Thread nD τ) none) Set.univ (bodyG i) K := by
  rw [ΦDRV_eq, hG, x_split, o_split]
  unfold inv3
  iintro ⟨⟨⟨HT, TS, HB, X00, X01, ⟨⟨%f00, S00⟩, ⟨%f01, S01⟩⟩, ⟨L00, L01⟩, ⟨O30, O31⟩⟩,
    ⟨⟨I10, I11, X10, X11, L10, L11⟩, ⟨⟨%f10, S10⟩, ⟨%f11, S11⟩⟩⟩, ⟨⟨I20, I21, X20, X21, L20, L21⟩, ⟨⟨%f20, S20⟩, ⟨%f21, S21⟩⟩⟩⟩, HW, HK⟩
  iapply (last_run c (V c main_v0) (V c main_arg1) i hi (fun h => by have := (cond1_iff i).mp h; omega) ((cond2_iff i).mpr hi)
    (fun h => by have := (cond3_iff i).mp h; omega) ((cond4_iff i).mpr hi) f00 f01 f10 f11 f20 f21 g W K)
  iframe HB L00 L01 S00 S01 S10 S11 S20 S21 O30 O31 HW
  iintro ⟨HB, I00, I01, X30, X31, L00, L01, U00, U01, U10, U11, U20, U21, S00, S01, S10, S11, S20, S21, O00, O01, O10, O11, O20, O21, O30, O31, HW⟩
  iapply HK
  isplitr [HW]
  · isplitl [I00 I01 I10 I11 I20 I21 U00 U01 U10 U11 U20 U21 HB]
    · isplitl [I00 I01 I10 I11 I20 I21]
      · iapply (in_join c (fun _ => Classical.choice inferInstance)); iframe I00 I01 I10 I11 I20 I21
      isplitl [U00 U01 U10 U11 U20 U21]
      · iapply (out_join c (fun _ => Classical.choice inferInstance)); iframe U00 U01 U10 U11 U20 U21
      · iexists _; iapply (Entails.of_eq (tbP_eq c _)); iexact HB
    isplitl [L00 L01 L10 L11 L20 L21 S00 S01 S10 S11 S20 S21 TS]
    · iframe L00 L01 L10 L11 L20 L21 S00 S01 S10 S11 S20 S21 TS
    isplitl [X00 X01 X10 X11 X20 X21 X30 X31 HT]
    · isplitr [HT]
      · iframe X00 X01 X10 X11 X20 X21 X30 X31
      · iapply (Entails.of_eq (tP_eq c _)); iexact HT
    · iframe O00 O01 O10 O11 O20 O21 O30 O31
  · iexact HW

end Points

end Cert.Proof.Add

end
-- ==== Proof.Launch.lean ====
/-
  The whole program's run: from any memory it ends with every semaphore at zero, the arguments as they were, and the
  result at its values.
-/
module

public import proofs.«01_k».proof.Proof.Points
public import Idealize.ShloMosaic.Lib.Claim

@[expose] public section

set_option maxRecDepth 16384

noncomputable section

namespace Cert.Proof.Add

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the proof speaks of: the program's own, the pipeline's, and the counters of the copies in flight. -/
local notation "𝕄" => MT nD τ sig Unit (Elt F) ℕ (Pipeline.UD sig nD τ) ℕ

open Idealize.ShloMosaic.Pipeline (Dat BodyObligation)

section Launch
variable (m : (ℓ : Loc nD τ sig) → Buf (Elt F) ℓ) (ρ : Dev nD → PrngReg)

/-- What the program's buffers hold when the kernel has run: the result's rows at their values, all else as the kernel found it. -/
def G (c : Dev nD) : (b : Ref sig .tc) → Buf (Elt F) ((c.tc : Thread nD τ).loc b) :=
  Function.update (V m c) main_v1 (sumC (V m c main_v0) (V m c main_arg1))
theorem G_v1 (c : Dev nD) : G m c main_v1 = sumC (V m c main_v0) (V m c main_arg1) := Function.update_self ..

/-- The proof data: no window, and the invariant before each point. -/
def dats (_ : Fin 1) (c : Dev nD) : Dat τ (Elt F) Unit ℕ (Pipeline.UD sig nD τ) ℕ cfg0 c where
  A w := w.elim0
  after w _ := w.elim0
  Φ t := match t.val with
    | 0 => Pipeline.ΦDRV osem0 cfg0.spec H0 R0 (V m) (V m) c
    | 1 => inv1 c (V m c main_v0) (V m c main_arg1) (V m c main_v1)
    | 2 => inv2 c (V m c main_v0) (V m c main_arg1) (V m c main_v1)
    | 3 => inv3 c (V m c main_v0) (V m c main_arg1) (V m c main_v1)
    | _ => Pipeline.ΦDRV osem0 cfg0.spec H0 R0 (V m) (G m) c
  q _ := fullShare
  owed _ := 0

theorem coords_val : ∀ t : Fin grid0.N, (grid0.coords t 0).val = t.val := by decide +kernel

/-- A point's run, as the pipeline asks for it: the invariant before it to the invariant after it. -/
theorem sound_body (c : Dev nD) (t : Fin cfg0.N) :
    iprop((dats m 0 c).Φ t.castSucc ∗ (dats m 0 c).owesAt () t.castSucc)
    ⊢ wp frame (wpE (defs₀ (F := F)) Variants.none c none) Set.univ (bodyAt0 t)
      (fun _ => iprop((dats m 0 c).Φ t.succ ∗ (dats m 0 c).owesAt () t.succ)) := by
  have hfin : ∀ (Ψ : sProp 𝕄), iprop(Ψ ∗ ∃ W', owes (c : Thread nD τ) 0 W') ⊢ iprop(Ψ ∗ (dats m 0 c).owesAt () t.succ) := fun Ψ => by
    unfold Dat.owesAt Pipeline.owesWithin
    rw [show (dats m 0 c).owed t.succ = 0 from rfl]
    iintro ⟨H, ⟨%W', HW⟩⟩
    isplitl [H]; · iexact H
    iexists W'; isplitr; · ipureintro; exact fun _ _ => Or.inl trivial
    iexact HW
  have hv := coords_val t
  rw [show (dats m 0 c).owesAt () t.castSucc = iprop(∃ W, ⌜_⌝ ∗ owes (c : Thread nD τ) 0 W) from rfl]
  iintro ⟨HΦ, ⟨%W, -, HW⟩⟩
  rcases fin_N0 t with rfl | rfl | rfl | rfl
  · iapply (point_first c (V m) (grid0.coords t0_0) hv W _)
    isplitl [HΦ]; · iapply (Entails.of_eq (show (dats m 0 c).Φ (Fin.castSucc t0_0) = Pipeline.ΦDRV osem0 cfg0.spec H0 R0 (V m) (V m) c from rfl)); iexact HΦ
    isplitl [HW]; · iexact HW
    rw [show (dats m 0 c).Φ (Fin.succ t0_0) = inv1 c (V m c main_v0) (V m c main_arg1) (V m c main_v1) from rfl]
    iintro H; iapply (hfin _); iexact H
  · iapply (point_one c (V m c main_v0) (V m c main_arg1) (V m c main_v1) (grid0.coords t0_1) hv W _)
    isplitl [HΦ]; · iapply (Entails.of_eq (show (dats m 0 c).Φ (Fin.castSucc t0_1) = inv1 c (V m c main_v0) (V m c main_arg1) (V m c main_v1) from rfl)); iexact HΦ
    isplitl [HW]; · iexact HW
    rw [show (dats m 0 c).Φ (Fin.succ t0_1) = inv2 c (V m c main_v0) (V m c main_arg1) (V m c main_v1) from rfl]
    iintro H; iapply (hfin _); iexact H
  · iapply (point_two c (V m c main_v0) (V m c main_arg1) (V m c main_v1) (grid0.coords t0_2) hv W _)
    isplitl [HΦ]; · iapply (Entails.of_eq (show (dats m 0 c).Φ (Fin.castSucc t0_2) = inv2 c (V m c main_v0) (V m c main_arg1) (V m c main_v1) from rfl)); iexact HΦ
    isplitl [HW]; · iexact HW
    rw [show (dats m 0 c).Φ (Fin.succ t0_2) = inv3 c (V m c main_v0) (V m c main_arg1) (V m c main_v1) from rfl]
    iintro H; iapply (hfin _); iexact H
  · iapply (point_last c (V m c main_v1) (V m) (G m) (G_v1 m c) (grid0.coords t0_3) hv W _)
    isplitl [HΦ]; · iapply (Entails.of_eq (show (dats m 0 c).Φ (Fin.castSucc t0_3) = inv3 c (V m c main_v0) (V m c main_arg1) (V m c main_v1) from rfl)); iexact HΦ
    isplitl [HW]; · iexact HW
    rw [show (dats m 0 c).Φ (Fin.succ t0_3) = Pipeline.ΦDRV osem0 cfg0.spec H0 R0 (V m) (G m) c from rfl]
    iintro H; iapply (hfin _); iexact H

theorem defs₀_row (t : Fin cfg0.N) : defs₀ (F := F) .tc cfg0.body (cfg0.bodyArgs t (cfg0.slots t)) = bodyAt0 t := by
  unfold defs₀; rw [Defs.onTc_tc]

theorem bigSep_W0 (Ψ : Fin 0 → sProp 𝕄) : bigSep Finset.univ Ψ = (BI.emp : sProp 𝕄) := bigSep_univ_eq_bigSepL [] (by decide) (by decide) Ψ

set_option backward.isDefEq.respectTransparency.types false in
theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · iintro ⟨H1, H2, -⟩
    isplitl [H1]; · iexact H1
    iexact H2
  · iintro ⟨H1, H2⟩
    isplitl [H1]; · iexact H1
    isplitl [H2]; · iexact H2
    iempintro

set_option maxHeartbeats 800000 in
/-- The program around the kernel: the reshape before it, the kernel, the reshape after it. -/
theorem hmain' : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- Every buffer outside the kernel ends at what the last reshape leaves of the kernel's results, and every semaphore at zero. -/
theorem run_rest : θ_run defs (onTc (τ := τ) (main (F := F))) (s₀ m ρ) (fun r => (∀ c : Dev nD, ∀ b ∈ Pipeline.restRefs sig cfg0.spec,
      r.2.mem ((c.tc : Thread nD τ).loc b)
        = StableHlo.after [hostOps1].flatten (Pipeline.withArrays cfg0.spec c (Pipeline.withR (V0 m c) R0 c (G m c)) fun w => (dats m 0 c).arrAt w cfg0.N) (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := G m) (hmain := hmain' m)
    (hA := fun _ w => w.elim0) (hin := fun _ => .rfl) (hout := fun _ => .rfl)
    (hQ' := fun r h => ⟨fun c => (h.1 c).2, h.2⟩)

/-! ## What the program's own buffers end with -/

/-- The sequence's rows as the kernel finds them. -/
abbrev rowsOf (A : S4x2048x1024.Idx → Elt F .f32) : S8192x1024.Idx → Elt F .f32 :=
  shapeCast (α := Elt F .f32) S8192x1024 A shapeCasts_S4x2048x1024_S8192x1024
/-- The program's result, of its two arguments. -/
def outC (A : S4x2048x1024.Idx → Elt F .f32) (T : S2048x1024.Idx → Elt F .f32) : S4x2048x1024.Idx → Elt F .f32 :=
  shapeCast (α := Elt F .f32) S4x2048x1024 (sumC (rowsOf A) T) shapeCasts_S8192x1024_S4x2048x1024

/-- The first reshape leaves the rows of the first argument. -/
theorem V_v0 (c : Dev nD) : V m c main_v0 = rowsOf (m ((c : Thread nD τ).loc main_arg0)) := by
  unfold_abbrev_sides
  simp only [hostOps0, List.flatten_cons, List.flatten_nil, List.append_nil]
  after_results
  rfl

/-- What the buffers hold after the kernel, at the result's rows and at a buffer the kernel does not write. -/
theorem kernel_leaves_v1 (c : Dev nD) (A) : Pipeline.withArrays cfg0.spec c (Pipeline.withR (V0 m c) R0 c (G m c)) A (Proc.devRef .tc main_v1)
    = sumC (rowsOf (m ((c : Thread nD τ).loc main_arg0))) (m ((c : Thread nD τ).loc main_arg1)) := by
  rw [Pipeline.withArrays_of_ne _ c _ _ main_v1 (by exact (by decide : ∀ w, Pipeline.arrRef cfg0.spec w ≠ main_v1)),
    Pipeline.withR_of_mem _ _ _ _ main_v1 (by decide), G_v1, V_v0, V_main_arg1]
theorem kernel_leaves (c : Dev nD) (A) (b : Ref sig .tc) (hb : b ∉ R0) :
    Pipeline.withArrays cfg0.spec c (Pipeline.withR (V0 m c) R0 c (G m c)) A (Proc.devRef .tc b) = V m c b := by
  rw [Pipeline.withArrays_of_ne _ c _ _ b (fun w => w.elim0), Pipeline.withR_of_not_mem _ _ _ _ b hb]

/-- The last reshape writes the result, -/
theorem tail_v2 (W : Valuation τ sig (Elt F)) : StableHlo.after [hostOps1].flatten W (Proc.devRef .tc main_v2)
    = shapeCast (α := Elt F .f32) S4x2048x1024 (W (Proc.devRef .tc main_v1)) shapeCasts_S8192x1024_S4x2048x1024 := by
  simp only [hostOps1, List.flatten_cons, List.flatten_nil, List.append_nil]
  after_results
  rfl
/-- and nothing else. -/
theorem tail_ne (W : Valuation τ sig (Elt F)) (b : Ref sig .tc) (hb : b ≠ main_v2) :
    StableHlo.after [hostOps1].flatten W (Proc.devRef .tc b) = W (Proc.devRef .tc b) := by
  simp only [hostOps1, List.flatten_cons, List.flatten_nil, List.append_nil, StableHlo.after_cons, StableHlo.after_nil]
  exact StableHlo.reshape_result_ne _ _ _ _ _ _ _ hb

/-- **The program.** From any memory it runs to the end, the result at its value of the arguments, the arguments as they were and every
    semaphore at zero. -/
theorem run_main : θ_run defs (onTc (τ := τ) (main (F := F))) ⟨m, fun _ => 0, ρ⟩ (fun r => (∀ c : Dev nD,
      r.2.mem ((c.tc : Thread nD τ).loc main_v2) = outC (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ⟨?_, ?_, ?_⟩, h.2⟩) (run_rest m ρ)
  · rw [h.1 c main_v2 (Pipeline.mem_restRefs_of main_v2 (by decide) (by decide)), tail_v2, kernel_leaves_v1]; rfl
  · rw [h.1 c main_arg0 (Pipeline.mem_restRefs_of main_arg0 (by decide) (by decide)), tail_ne _ _ (by decide), kernel_leaves _ _ _ _ (by decide), V_main_arg0]
  · rw [h.1 c main_arg1 (Pipeline.mem_restRefs_of main_arg1 (by decide) (by decide)), tail_ne _ _ (by decide), kernel_leaves _ _ _ _ (by decide), V_main_arg1]

end Launch

end Cert.Proof.Add

end
-- ==== Proof.Table.lean ====
/-
  One row of the scaled table over the reals: both programs' rows have this value.
-/
module

public import proofs.«01_k».proof.Proof.Pieces
public import Idealize.ShloMosaic.PureOps.Ideal.Laws
public import Idealize.ShloMosaic.Lib.Pointwise
public import Idealize.ShloMosaic.Lib.Pipeline.Value

@[expose] public section

noncomputable section

namespace Cert.Proof.Add

open Cert.KernelIdeal Cert.KernelIdeal.Gen
open Idealize.ShloMosaic

/-- What a row of length `n` is multiplied by: one over `n` and a little, where `n` exceeds one. -/
def factor (n : EReal) : EReal := if 1 < n then Ideal.div 1 (n + Ideal.ofBits .f32 0x33D6BF95#32) else 1

/-- The length of row `r` of a table. -/
def lengthOf (T : S2048x1024.Idx → EReal) (r : Fin 2048) : EReal := Ideal.sqrt (∑ k : Fin 1024, T (ix2 r k) * T (ix2 r k))

/-- The kernel's scaled table at an element: the table's element times the factor of its row's length. -/
theorem scaledC_apply (T : S2048x1024.Idx → EReal) (r : Fin 2048) (d : Fin 1024) :
    scaledC (F := Ideal) T (ix2 r d) = T (ix2 r d) * factor (lengthOf T r) := by
  unfold scaledC k0_pay2
  dsimp only
  pointwise
  rfl

end Cert.Proof.Add

end
-- ==== Proof.Reference.lean ====
/-
  What the reference computes: it takes every row of the table in order, which is the table, scales each row, and adds the rows to every
  sequence of the batch.
-/
module

public import proofs.«01_k».proof.Proof.Gen.ReferenceIdeal.Run
public import proofs.«01_k».proof.Proof.Gen.ReferenceIdeal.Read
public import proofs.«01_k».proof.Proof.Table
public import Idealize.ShloMosaic.Lib.Quiescent

@[expose] public section

noncomputable section

namespace Cert.Proof.Ref

open Cert.ReferenceIdeal Cert.ReferenceIdeal.Gen Cert.ReferenceIdeal.Read
open Idealize.ShloMosaic Idealize.SL.Sem

section Word
variable {n : Nat} (hn : n < 2048)
include hn
/-- A row number read as a signed word is itself, -/
theorem word_toInt : (BitVec.ofNat 32 n).toInt = n := by
  rw [BitVec.toInt_ofNat']; simp only [Int.bmod]; omega
/-- so it is not negative, -/
theorem word_nonneg : IntOp.cmpi .slt (BitVec.ofNat 32 n) 0#32 = 0#1 := by
  show BitVec.ofBool ((BitVec.ofNat 32 n).slt 0#32) = _
  rw [BitVec.slt_eq_decide, word_toInt hn, decide_eq_false (by simp)]; rfl
/-- it is at least zero, -/
theorem word_ge : IntOp.cmpi .sge (BitVec.ofNat 32 n) 0#32 = 1#1 := by
  show BitVec.ofBool ((0#32).sle (BitVec.ofNat 32 n)) = _
  rw [BitVec.sle_eq_decide, word_toInt hn, decide_eq_true (by simp)]; rfl
/-- and it is at most the last row's. -/
theorem word_le : IntOp.cmpi .sle (BitVec.ofNat 32 n) 2047#32 = 1#1 := by
  show BitVec.ofBool ((BitVec.ofNat 32 n).sle 2047#32) = _
  rw [BitVec.sle_eq_decide, word_toInt hn, decide_eq_true (by show (n : Int) ≤ 2047; omega)]; rfl
end Word

/-- The index of row `i` is `i`. -/
theorem index_apply (i : S2048x1.Idx) : val_main_call0_v5 (F := Ideal) i = BitVec.ofNat 32 (i 0).val := by
  have h : (i 0).val < 2048 := (i 0).isLt
  rw [val_main_call0_v5_apply, val_main_call0_v4_apply, val_main_call0_v1_apply, val_main_v0_apply, val_main_call0_v0_apply, val_main_call0_c_apply]
  show Scalar.select (IntOp.cmpi .slt (BitVec.ofNat 32 (i 0).val) 0#32) _ (BitVec.ofNat 32 (i 0).val) = _
  rw [word_nonneg h]; rfl

/-- Every index names a row of the table. -/
theorem inside (i : S2048x1.Idx) : val_main_call0_v11 (F := Ideal) i = 1#1 := by
  have h : (i 0).val < 2048 := (i 0).isLt
  rw [val_main_call0_v11_apply, val_main_call0_v7_apply, val_main_call0_v10_apply, index_apply, val_main_call0_v6_apply, val_main_call0_c_2_apply,
    val_main_call0_v9_apply, val_main_call0_v8_apply, val_main_call0_c_1_apply, word_ge h, word_le h]; rfl

/-- The conjunction of bits that are all one is one. -/
theorem foldl_and_one {α : Type} (l : List α) (f : α → BitVec 1) (hf : ∀ a, f a = 1#1) : l.foldl (fun r a => IntOp.andi r (f a)) 1#1 = 1#1 := by
  induction l with
  | nil => rfl
  | cons a l ih => rw [List.foldl_cons, hf a]; exact ih
/-- So the test on the whole of row `i`'s index passes. -/
theorem all_inside (i : S2048.Idx) : val_main_call0_v12 (F := Ideal) i = 1#1 :=
  foldl_and_one _ _ fun _ => inside _

/-- The row the gather takes for row `i` is row `i`. -/
theorem gather_apply (T : S2048x1024.Idx → EReal) (y : S2048x1024.Idx) : val_main_call0_v13 (F := Ideal) T y = T y := by
  have h : (y 0).val < 2048 := (y 0).isLt
  unfold val_main_call0_v13 Host.gather
  congr 1
  funext a
  refine Fin.ext ?_
  let D := gather_S2048x1024_S2048x1_S2048x1024_1_0_n_n_0_1_11024
  show D.start y _ a + D.batchCoord y a + D.offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl), index_apply]
    show min (BitVec.ofNat 32 (y 0).val).toInt.toNat 2047 = (y 0).val
    rw [word_toInt h]; omega
  · have h0 : D.start y (val_main_call0_v5 (F := Ideal)) (1 : Fin 2) = 0 := by
      unfold GatherDims.start; exact dif_neg (by decide)
    rw [h0]
    simp only [Nat.zero_add]
    rfl

/-- The rows taken are the table. -/
theorem taken (T : S2048x1024.Idx → EReal) (y : S2048x1024.Idx) : val_main_v1 (F := Ideal) T y = T y := by
  rw [val_main_v1_apply, val_main_call0_v14_apply, all_inside, gather_apply]; rfl

/-- The length of a row. -/
theorem length_apply (T : S2048x1024.Idx → EReal) (i : S2048x1.Idx) : val_main_v2 (F := Ideal) T i = Add.lengthOf T ⟨(i 0).val, (i 0).isLt⟩ := by
  rw [val_main_v2_apply, val_main_call1_v2_apply, val_main_call1_v1_apply, val_main_call1_cst_apply, Ideal.hostUnary_sqrt_def]
  unfold Add.lengthOf
  refine congrArg Ideal.sqrt ?_
  pointwise
  refine Finset.sum_congr rfl fun k _ => ?_
  rw [val_main_call1_v0_apply, taken, Ideal.mulf_def]
  have e : idx_main_call1_v1 (idx_main_call1_v2 i) k = ix2 (i 0) k := by
    funext a; match a with
    | ⟨0, _⟩ => rfl
    | ⟨1, _⟩ => rfl
  rw [e]; rfl

/-- The reference at an element. -/
theorem reference_apply (X : S4x2048x1024.Idx → EReal) (T : S2048x1024.Idx → EReal) (i : S4x2048x1024.Idx) :
    val_main_v15 (F := Ideal) X T i
      = X i + T (ix2 (i 1) (i 2)) * Add.factor (Add.lengthOf T (i 1)) := by
  rw [val_main_v15_apply, val_main_v14_apply, val_main_v13_apply, val_main_v12_apply, taken, val_main_v11_apply, val_main_v10_apply,
    val_main_v4_apply, val_main_v8_apply, val_main_v6_apply, length_apply, val_main_v3_apply, val_main_v5_apply, val_main_v7_apply, val_main_v9_apply,
    val_main_cst_apply, val_main_cst_0_apply, val_main_cst_1_apply, val_main_cst_2_apply]
  pointwise
  have e : idx_main_v13 (idx_main_v14 i) = ix2 (i 1) (i 2) := by
    funext a; match a with
    | ⟨0, _⟩ => rfl
    | ⟨1, _⟩ => rfl
  rw [e]; rfl

/-- The reference runs to the end, its result at that value, its arguments as they were and every semaphore at zero (there is none). -/
theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v15) = val_main_v15 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).1.trans (val_main_v15_eq m c), (h c).2⟩, sem_eq_zero_of_no_sems (by decide) _⟩) (Value.run m ρ)

end Cert.Proof.Ref

end
-- ==== Proof.Equal.lean ====
/-
  The kernel's result is the reference's, element by element.
-/
module

public import proofs.«01_k».proof.Proof.Launch
public import proofs.«01_k».proof.Proof.Reference

@[expose] public section

noncomputable section

namespace Cert.Proof.Add

open Cert.KernelIdeal Cert.KernelIdeal.Gen
open Idealize.ShloMosaic

/-- Element `(b, s, d)` of the batch is element `(2048 b + s, d)` of the rows: `2048 b + s` is a row, and `s` is its place in its sequence. -/
theorem row_lt (i : S4x2048x1024.Idx) : 2048 * (i 0).val + (i 1).val < 8192 := by
  have h0 : (i 0).val < 4 := (i 0).isLt
  have h1 : (i 1).val < 2048 := (i 1).isLt
  omega
theorem row_mod (i : S4x2048x1024.Idx) : (2048 * (i 0).val + (i 1).val) % 2048 = (i 1).val := by
  have h1 : (i 1).val < 2048 := (i 1).isLt
  omega
/-- That element of the rows. -/
abbrev rowIdx (i : S4x2048x1024.Idx) : S8192x1024.Idx := ix2 ⟨2048 * (i 0).val + (i 1).val, row_lt i⟩ (i 2)

/-- The two have the same row-major position. -/
theorem row_pos (i : S4x2048x1024.Idx) : (S8192x1024.rowMajor (rowIdx i)).val = (S4x2048x1024.rowMajor i).val := by
  rw [Shape.rowMajor_val_two, Shape.rowMajor_val_three]
  show (2048 * (i 0).val + (i 1).val) * 1024 + (i 2).val = ((i 0).val * 2048 + (i 1).val) * 1024 + (i 2).val
  omega

/-- The first reshape at that element, -/
theorem rowsOf_apply (A : S4x2048x1024.Idx → EReal) (i : S4x2048x1024.Idx) : rowsOf (F := Ideal) A (rowIdx i) = A i :=
  shapeCast_apply A shapeCasts_S4x2048x1024_S8192x1024 (rowIdx i) i (row_pos i).symm
/-- and the last one. -/
theorem outC_apply (A : S4x2048x1024.Idx → EReal) (T : S2048x1024.Idx → EReal) (i : S4x2048x1024.Idx) :
    outC (F := Ideal) A T i = A i + T (ix2 (i 1) (i 2)) * factor (lengthOf T (i 1)) := by
  have h : outC (F := Ideal) A T i = sumC (F := Ideal) (rowsOf (F := Ideal) A) T (rowIdx i) :=
    shapeCast_apply _ shapeCasts_S8192x1024_S4x2048x1024 i (rowIdx i) (row_pos i)
  have e : (⟨(rowIdx i 0).val % 2048, Nat.mod_lt _ (by decide)⟩ : Fin 2048) = i 1 := Fin.ext (row_mod i)
  rw [h]
  unfold sumC
  rw [rowsOf_apply, e, Ideal.addf_def]
  exact congrArg (A i + ·) (scaledC_apply T (i 1) (i 2))

/-- **The equation.** The kernel's result is the reference's. -/
theorem out_eq (A : S4x2048x1024.Idx → EReal) (T : S2048x1024.Idx → EReal) :
    Cert.ReferenceIdeal.Read.val_main_v15 (F := Ideal) A T = outC (F := Ideal) A T :=
  funext fun i => (Ref.reference_apply A T i).trans (outC_apply A T i).symm

end Cert.Proof.Add

end
-- ==== Proof.lean ====
/-
  The claims, assembled. The kernel over the machine's bits and the kernel over the reals are one program at two instances, so one run serves
  both; the reference is its own run; and the two results are equal element by element.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Reference
public import proofs.«01_k».proof.Proof.Equal
public import Idealize.ShloMosaic.PureOps.BitExact
public import Idealize.ShloMosaic.Adequacy
public import Idealize.ShloMosaic.Init

@[expose] public section

noncomputable section

namespace Cert.Proof

open Idealize.ShloMosaic Idealize.SL.Sem

/-- The kernel over the bits runs to the end with its arguments unchanged and every semaphore at zero. -/
theorem frame_bits : Cert.quiescent_Kernel (hKernel := Cert.Kernel.Gen.facts) := fun m g _ =>
  (θ_run (Cert.KernelIdeal.defs (F := Bits)) _ _).mono (fun _ h => ⟨fun c => (h.1 c).2, h.2⟩) (Add.run_main (F := Bits) m g)

/-- The kernel over the reals does so too. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Add.run_main (F := Ideal) m g)

/-- And so does the reference. -/
theorem frame_ref : Cert.quiescent_ReferenceIdeal (hReferenceIdeal := Cert.ReferenceIdeal.Gen.facts) := fun m g _ =>
  (θ_run (Cert.ReferenceIdeal.defs (F := Ideal)) _ _).mono (fun _ h => ⟨fun c => (h.1 c).2, h.2⟩) (Ref.run_ref m g)

/-- Over the reals the kernel and the reference, from equal arguments, leave equal results. -/
theorem value : Cert.algebraic_KernelIdeal_ReferenceIdeal (hKernelIdeal := Cert.KernelIdeal.Gen.facts)
    (hReferenceIdeal := Cert.ReferenceIdeal.Gen.facts) := fun m g m' g' _ hargs =>
  ⟨fun c => Add.outC (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run (Cert.KernelIdeal.defs (F := Ideal)) _ _).mono (fun _ h => h.1) (Add.run_main (F := Ideal) m g),
    (θ_run (Cert.ReferenceIdeal.defs (F := Ideal)) _ _).mono (fun _ h c => ⟨((h.1 c).1.trans (Add.out_eq _ _)).trans
      (congrArg₂ (Add.outC (F := Ideal)) (hargs c).1 (hargs c).2), (h.1 c).2⟩) (Ref.run_ref m' g')⟩

theorem claim : Cert.Claim := ⟨Cert.Kernel.Gen.facts, Cert.KernelIdeal.Gen.facts, Cert.ReferenceIdeal.Gen.facts,
  frame_bits, frame_ideal, frame_ref, trivial, value⟩

end Cert.Proof

end
